-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1024 : Shape := ⟨3, ![6, 256, 1024]⟩
abbrev S2x128x8x8 : Shape := ⟨4, ![2, 128, 8, 8]⟩
abbrev S512x8192 : Shape := ⟨2, ![512, 8192]⟩
abbrev S8x8192 : Shape := ⟨2, ![8, 8192]⟩
abbrev S8192 : Shape := ⟨1, ![8192]⟩
abbrev S1536x1024 : Shape := ⟨2, ![1536, 1024]⟩
abbrev S2x1024x8 : Shape := ⟨3, ![2, 1024, 8]⟩
abbrev S1x8192 : Shape := ⟨2, ![1, 8192]⟩
abbrev S1536x8192 : Shape := ⟨2, ![1536, 8192]⟩
abbrev S512x512 : Shape := ⟨2, ![512, 512]⟩
abbrev S8x512 : Shape := ⟨2, ![8, 512]⟩
abbrev S1x512 : Shape := ⟨2, ![1, 512]⟩
abbrev S1536x512 : Shape := ⟨2, ![1536, 512]⟩
abbrev S1x256x8 : Shape := ⟨3, ![1, 256, 8]⟩
abbrev S256x8 : Shape := ⟨2, ![256, 8]⟩
abbrev S256x256 : Shape := ⟨2, ![256, 256]⟩
abbrev S8x256 : Shape := ⟨2, ![8, 256]⟩
abbrev S1536x256 : Shape := ⟨2, ![1536, 256]⟩
abbrev S128x512 : Shape := ⟨2, ![128, 512]⟩
abbrev S1536x128 : Shape := ⟨2, ![1536, 128]⟩
abbrev S6x256x8192 : Shape := ⟨3, ![6, 256, 8192]⟩

abbrev nBuf : Space → Nat
  | .hbm => 12
  | .vmem => 11
  | .smem => 0
  | _ => 0

abbrev bufTy : (tb : Table) → Fin (tcTables nBuf tb) → BufTy
  | .hbm, ⟨0, _⟩ => ⟨S6x256x1024, .bf16⟩
  | .hbm, ⟨1, _⟩ => ⟨S2x128x8x8, .bf16⟩
  | .hbm, ⟨2, _⟩ => ⟨S512x8192, .i8⟩
  | .hbm, ⟨3, _⟩ => ⟨S8x8192, .bf16⟩
  | .hbm, ⟨4, _⟩ => ⟨S8192, .f32⟩
  | .hbm, ⟨5, _⟩ => ⟨S1536x1024, .bf16⟩
  | .hbm, ⟨6, _⟩ => ⟨S2x1024x8, .bf16⟩
  | .hbm, ⟨7, _⟩ => ⟨S1x8192, .f32⟩
  | .hbm, ⟨8, _⟩ => ⟨S1536x8192, .bf16⟩
  | .hbm, ⟨9, _⟩ => ⟨S1536x1024, .bf16⟩
  | .hbm, ⟨10, _⟩ => ⟨S6x256x8192, .bf16⟩
  | .hbm, ⟨11, _⟩ => ⟨S6x256x1024, .bf16⟩
  | .local _ .vmem, ⟨0, _⟩ => ⟨S1536x1024, .bf16⟩
  | .local _ .vmem, ⟨1, _⟩ => ⟨S2x1024x8, .bf16⟩
  | .local _ .vmem, ⟨2, _⟩ => ⟨S512x512, .i8⟩
  | .local _ .vmem, ⟨3, _⟩ => ⟨S512x512, .i8⟩
  | .local _ .vmem, ⟨4, _⟩ => ⟨S8x512, .bf16⟩
  | .local _ .vmem, ⟨5, _⟩ => ⟨S8x512, .bf16⟩
  | .local _ .vmem, ⟨6, _⟩ => ⟨S1x512, .f32⟩
  | .local _ .vmem, ⟨7, _⟩ => ⟨S1x512, .f32⟩
  | .local _ .vmem, ⟨8, _⟩ => ⟨S1536x512, .bf16⟩
  | .local _ .vmem, ⟨9, _⟩ => ⟨S1536x512, .bf16⟩
  | .local _ .vmem, ⟨10, _⟩ => ⟨S1536x1024, .bf16⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S6x256x1024 : Shape := ⟨3, ![6, 256, 1024]⟩
abbrev S2x128x8x8 : Shape := ⟨4, ![2, 128, 8, 8]⟩
abbrev S512x8192 : Shape := ⟨2, ![512, 8192]⟩
abbrev S8x8192 : Shape := ⟨2, ![8, 8192]⟩
abbrev S8192 : Shape := ⟨1, ![8192]⟩
abbrev S6x256x128x8x1 : Shape := ⟨5, ![6, 256, 128, 8, 1]⟩
abbrev S1x128x8x8 : Shape := ⟨4, ![1, 128, 8, 8]⟩
abbrev S128x8x8 : Shape := ⟨3, ![128, 8, 8]⟩
abbrev S128x1x8x8 : Shape := ⟨4, ![128, 1, 8, 8]⟩
abbrev S128x1x8x6x256 : Shape := ⟨5, ![128, 1, 8, 6, 256]⟩
abbrev S6x256x64x8x2 : Shape := ⟨5, ![6, 256, 64, 8, 2]⟩
abbrev S64x2x8x8 : Shape := ⟨4, ![64, 2, 8, 8]⟩
abbrev S64x2x8x6x256 : Shape := ⟨5, ![64, 2, 8, 6, 256]⟩
abbrev S_ : Shape := ⟨0, ![]⟩
abbrev S4x128x8192 : Shape := ⟨3, ![4, 128, 8192]⟩
abbrev S4x8192 : Shape := ⟨2, ![4, 8192]⟩
abbrev S4x1x8192 : Shape := ⟨3, ![4, 1, 8192]⟩
abbrev S6x256x512 : Shape := ⟨3, ![6, 256, 512]⟩
abbrev S6x256x8192 : Shape := ⟨3, ![6, 256, 8192]⟩
abbrev S1x1x8192 : Shape := ⟨3, ![1, 1, 8192]⟩

abbrev nBuf : Space → Nat
  | .hbm => 65
  | .vmem => 0
  | .smem => 0
  | _ => 0

abbrev bufTy : (tb : Table) → Fin (tcTables nBuf tb) → BufTy
  | .hbm, ⟨0, _⟩ => ⟨S6x256x1024, .bf16⟩
  | .hbm, ⟨1, _⟩ => ⟨S2x128x8x8, .bf16⟩
  | .hbm, ⟨2, _⟩ => ⟨S512x8192, .i8⟩
  | .hbm, ⟨3, _⟩ => ⟨S8x8192, .bf16⟩
  | .hbm, ⟨4, _⟩ => ⟨S8192, .f32⟩
  | .hbm, ⟨5, _⟩ => ⟨S6x256x128x8x1, .bf16⟩
  | .hbm, ⟨6, _⟩ => ⟨S1x128x8x8, .bf16⟩
  | .hbm, ⟨7, _⟩ => ⟨S128x8x8, .bf16⟩
  | .hbm, ⟨8, _⟩ => ⟨S128x1x8x8, .bf16⟩
  | .hbm, ⟨9, _⟩ => ⟨S128x1x8x6x256, .f32⟩
  | .hbm, ⟨10, _⟩ => ⟨S6x256x128x8x1, .f32⟩
  | .hbm, ⟨11, _⟩ => ⟨S6x256x1024, .f32⟩
  | .hbm, ⟨12, _⟩ => ⟨S6x256x1024, .bf16⟩
  | .hbm, ⟨13, _⟩ => ⟨S6x256x64x8x2, .bf16⟩
  | .hbm, ⟨14, _⟩ => ⟨S1x128x8x8, .bf16⟩
  | .hbm, ⟨15, _⟩ => ⟨S128x8x8, .bf16⟩
  | .hbm, ⟨16, _⟩ => ⟨S64x2x8x8, .bf16⟩
  | .hbm, ⟨17, _⟩ => ⟨S64x2x8x6x256, .f32⟩
  | .hbm, ⟨18, _⟩ => ⟨S6x256x64x8x2, .f32⟩
  | .hbm, ⟨19, _⟩ => ⟨S6x256x1024, .f32⟩
  | .hbm, ⟨20, _⟩ => ⟨S6x256x1024, .bf16⟩
  | .hbm, ⟨21, _⟩ => ⟨S512x8192, .i32⟩
  | .hbm, ⟨22, _⟩ => ⟨S_, .i32⟩
  | .hbm, ⟨23, _⟩ => ⟨S512x8192, .i32⟩
  | .hbm, ⟨24, _⟩ => ⟨S512x8192, .i32⟩
  | .hbm, ⟨25, _⟩ => ⟨S_, .i32⟩
  | .hbm, ⟨26, _⟩ => ⟨S512x8192, .i32⟩
  | .hbm, ⟨27, _⟩ => ⟨S512x8192, .i1⟩
  | .hbm, ⟨28, _⟩ => ⟨S_, .i32⟩
  | .hbm, ⟨29, _⟩ => ⟨S512x8192, .i32⟩
  | .hbm, ⟨30, _⟩ => ⟨S512x8192, .i32⟩
  | .hbm, ⟨31, _⟩ => ⟨S512x8192, .i32⟩
  | .hbm, ⟨32, _⟩ => ⟨S512x8192, .bf16⟩
  | .hbm, ⟨33, _⟩ => ⟨S4x128x8192, .bf16⟩
  | .hbm, ⟨34, _⟩ => ⟨S_, .i32⟩
  | .hbm, ⟨35, _⟩ => ⟨S512x8192, .i32⟩
  | .hbm, ⟨36, _⟩ => ⟨S512x8192, .i32⟩
  | .hbm, ⟨37, _⟩ => ⟨S_, .i32⟩
  | .hbm, ⟨38, _⟩ => ⟨S512x8192, .i32⟩
  | .hbm, ⟨39, _⟩ => ⟨S512x8192, .i1⟩
  | .hbm, ⟨40, _⟩ => ⟨S_, .i32⟩
  | .hbm, ⟨41, _⟩ => ⟨S512x8192, .i32⟩
  | .hbm, ⟨42, _⟩ => ⟨S512x8192, .i32⟩
  | .hbm, ⟨43, _⟩ => ⟨S512x8192, .i32⟩
  | .hbm, ⟨44, _⟩ => ⟨S512x8192, .bf16⟩
  | .hbm, ⟨45, _⟩ => ⟨S4x128x8192, .bf16⟩
  | .hbm, ⟨46, _⟩ => ⟨S4x8192, .bf16⟩
  | .hbm, ⟨47, _⟩ => ⟨S4x1x8192, .bf16⟩
  | .hbm, ⟨48, _⟩ => ⟨S4x128x8192, .bf16⟩
  | .hbm, ⟨49, _⟩ => ⟨S4x128x8192, .bf16⟩
  | .hbm, ⟨50, _⟩ => ⟨S512x8192, .bf16⟩
  | .hbm, ⟨51, _⟩ => ⟨S4x8192, .bf16⟩
  | .hbm, ⟨52, _⟩ => ⟨S4x1x8192, .bf16⟩
  | .hbm, ⟨53, _⟩ => ⟨S4x128x8192, .bf16⟩
  | .hbm, ⟨54, _⟩ => ⟨S4x128x8192, .bf16⟩
  | .hbm, ⟨55, _⟩ => ⟨S512x8192, .bf16⟩
  | .hbm, ⟨56, _⟩ => ⟨S6x256x512, .bf16⟩
  | .hbm, ⟨57, _⟩ => ⟨S6x256x8192, .f32⟩
  | .hbm, ⟨58, _⟩ => ⟨S6x256x512, .bf16⟩
  | .hbm, ⟨59, _⟩ => ⟨S6x256x8192, .f32⟩
  | .hbm, ⟨60, _⟩ => ⟨S6x256x8192, .f32⟩
  | .hbm, ⟨61, _⟩ => ⟨S1x1x8192, .f32⟩
  | .hbm, ⟨62, _⟩ => ⟨S6x256x8192, .f32⟩
  | .hbm, ⟨63, _⟩ => ⟨S6x256x8192, .f32⟩
  | .hbm, ⟨64, _⟩ => ⟨S6x256x8192, .bf16⟩
  | _, _ => ⟨S6x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.Cases.lean ====
/- The points of the grid and the staging buffers: at which points the kernel's conditional is taken, and which windows
   are stored at every point. -/
module

public import proofs.«01_k».proof.Proof.Gen.KernelIdeal.Frame

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1024x8 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x1024 .bf16 := win0_6.stage (cfg0.slots t 6)
abbrev hs0_6 (t : Fin cfg0.N) : (ms0_6 t).IsWhole := hstage0_6 ((cfg0.slots t 6).cast nbuf0_6)

end Cert.Boft

end
-- ==== Proof.Body.lean ====
/- What the kernel's body computes, as functions of the blocks it loads: the rotation of each 256-column tile of the
   activations, and the product of the rotated activations with the weights' block. -/
module

public import proofs.«01_k».proof.Proof.Gen.KernelIdeal.Skeleton
public import Idealize.ShloMosaic.Lib.Pipeline.Value

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Column tile 0 of the rotated activations: `u0`, `u1` the tile's blocks of the two factors, `a` the activations' tile. -/
def tile0 (u0 u1 : Vec F S1x256x8 .bf16) (a : Vec F S1536x256 .bf16) : Vec F S1536x256 .bf16 :=
  k0_pay22 (k0_pay7 (k0_pay2 u0) (iota .tc S256x256 32 [1] iota_S256x256_d1_w32) k0_pay3 k0_pay4 k0_pay5 k0_pay6)
    (iota .tc S256x256 32 [0] iota_S256x256_d0_w32) (iota .tc S256x256 32 [1] iota_S256x256_d1_w32)
    (k0_pay18 (k0_pay8 u1)
      (k0_pay15 (F := F) (iota .tc S256x256 32 [1] iota_S256x256_d1_w32)
        (k0_pay12 (iota .tc S256x256 32 [0] iota_S256x256_d0_w32) 16#32 k0_pay9 k0_pay10 k0_pay11)
        (Scalar.select (Scalar.cmpi .eq 16#32 0#32) 1#32 16#32)
        (k0_pay13 (iota .tc S256x256 32 [0] iota_S256x256_d0_w32)) k0_pay14)
      (Scalar.select (Scalar.cmpi .eq 16#32 0#32) 1#32 16#32) k0_pay16 k0_pay17)
    (k0_pay21 (iota .tc S256x256 32 [0] iota_S256x256_d0_w32) (iota .tc S256x256 32 [1] iota_S256x256_d1_w32) 16#32
      (k0_pay19 (iota .tc S256x256 32 [0] iota_S256x256_d0_w32)) (k0_pay20 (iota .tc S256x256 32 [0] iota_S256x256_d0_w32)))
    2#32 (Scalar.cmpi .eq 2#32 0#32) 1#32 a

/-- Column tile 1 of the rotated activations: `u0`, `u1` the tile's blocks of the two factors, `a` the activations' tile. -/
def tile1 (u0 u1 : Vec F S1x256x8 .bf16) (a : Vec F S1536x256 .bf16) : Vec F S1536x256 .bf16 :=
  k0_pay43 (k0_pay28 (k0_pay23 u0) (iota .tc S256x256 32 [1] iota_S256x256_d1_w32) k0_pay24 k0_pay25 k0_pay26 k0_pay27)
    (iota .tc S256x256 32 [0] iota_S256x256_d0_w32) (iota .tc S256x256 32 [1] iota_S256x256_d1_w32)
    (k0_pay39 (k0_pay29 u1)
      (k0_pay36 (F := F) (iota .tc S256x256 32 [1] iota_S256x256_d1_w32)
        (k0_pay33 (iota .tc S256x256 32 [0] iota_S256x256_d0_w32) 16#32 k0_pay30 k0_pay31 k0_pay32)
        (Scalar.select (Scalar.cmpi .eq 16#32 0#32) 1#32 16#32)
        (k0_pay34 (iota .tc S256x256 32 [0] iota_S256x256_d0_w32)) k0_pay35)
      (Scalar.select (Scalar.cmpi .eq 16#32 0#32) 1#32 16#32) k0_pay37 k0_pay38)
    (k0_pay42 (iota .tc S256x256 32 [0] iota_S256x256_d0_w32) (iota .tc S256x256 32 [1] iota_S256x256_d1_w32) 16#32
      (k0_pay40 (iota .tc S256x256 32 [0] iota_S256x256_d0_w32)) (k0_pay41 (iota .tc S256x256 32 [0] iota_S256x256_d0_w32)))
    2#32 (Scalar.cmpi .eq 2#32 0#32) 1#32 a

/-- Column tile 2 of the rotated activations: `u0`, `u1` the tile's blocks of the two factors, `a` the activations' tile. -/
def tile2 (u0 u1 : Vec F S1x256x8 .bf16) (a : Vec F S1536x256 .bf16) : Vec F S1536x256 .bf16 :=
  k0_pay64 (k0_pay49 (k0_pay44 u0) (iota .tc S256x256 32 [1] iota_S256x256_d1_w32) k0_pay45 k0_pay46 k0_pay47 k0_pay48)
    (iota .tc S256x256 32 [0] iota_S256x256_d0_w32) (iota .tc S256x256 32 [1] iota_S256x256_d1_w32)
    (k0_pay60 (k0_pay50 u1)
      (k0_pay57 (F := F) (iota .tc S256x256 32 [1] iota_S256x256_d1_w32)
        (k0_pay54 (iota .tc S256x256 32 [0] iota_S256x256_d0_w32) 16#32 k0_pay51 k0_pay52 k0_pay53)
        (Scalar.select (Scalar.cmpi .eq 16#32 0#32) 1#32 16#32)
        (k0_pay55 (iota .tc S256x256 32 [0] iota_S256x256_d0_w32)) k0_pay56)
      (Scalar.select (Scalar.cmpi .eq 16#32 0#32) 1#32 16#32) k0_pay58 k0_pay59)
    (k0_pay63 (iota .tc S256x256 32 [0] iota_S256x256_d0_w32) (iota .tc S256x256 32 [1] iota_S256x256_d1_w32) 16#32
      (k0_pay61 (iota .tc S256x256 32 [0] iota_S256x256_d0_w32)) (k0_pay62 (iota .tc S256x256 32 [0] iota_S256x256_d0_w32)))
    2#32 (Scalar.cmpi .eq 2#32 0#32) 1#32 a

/-- Column tile 3 of the rotated activations: `u0`, `u1` the tile's blocks of the two factors, `a` the activations' tile. -/
def tile3 (u0 u1 : Vec F S1x256x8 .bf16) (a : Vec F S1536x256 .bf16) : Vec F S1536x256 .bf16 :=
  k0_pay85 (k0_pay70 (k0_pay65 u0) (iota .tc S256x256 32 [1] iota_S256x256_d1_w32) k0_pay66 k0_pay67 k0_pay68 k0_pay69)
    (iota .tc S256x256 32 [0] iota_S256x256_d0_w32) (iota .tc S256x256 32 [1] iota_S256x256_d1_w32)
    (k0_pay81 (k0_pay71 u1)
      (k0_pay78 (F := F) (iota .tc S256x256 32 [1] iota_S256x256_d1_w32)
        (k0_pay75 (iota .tc S256x256 32 [0] iota_S256x256_d0_w32) 16#32 k0_pay72 k0_pay73 k0_pay74)
        (Scalar.select (Scalar.cmpi .eq 16#32 0#32) 1#32 16#32)
        (k0_pay76 (iota .tc S256x256 32 [0] iota_S256x256_d0_w32)) k0_pay77)
      (Scalar.select (Scalar.cmpi .eq 16#32 0#32) 1#32 16#32) k0_pay79 k0_pay80)
    (k0_pay84 (iota .tc S256x256 32 [0] iota_S256x256_d0_w32) (iota .tc S256x256 32 [1] iota_S256x256_d1_w32) 16#32
      (k0_pay82 (iota .tc S256x256 32 [0] iota_S256x256_d0_w32)) (k0_pay83 (iota .tc S256x256 32 [0] iota_S256x256_d0_w32)))
    2#32 (Scalar.cmpi .eq 2#32 0#32) 1#32 a

/-- The four stores the rotation makes, the last first: one per column tile. -/
def rotPieces (x0 : Vec F S1536x1024 .bf16) (x1 : Vec F S2x1024x8 .bf16) : List (View.Piece (Elt F) S1536x1024 .bf16) :=
  [⟨Rect.unit (s := S1536x1024) ![0, 768] S1536x256.size inb_S1536x1024_S1536x256_0_768,
      tile3 (View.ld x1 (Rect.unit (s := S2x1024x8) ![0, 768, 0] S1x256x8.size inb_S2x1024x8_S1x256x8_0_768_0))
        (View.ld x1 (Rect.unit (s := S2x1024x8) ![1, 768, 0] S1x256x8.size inb_S2x1024x8_S1x256x8_1_768_0))
        (View.ld x0 (Rect.unit (s := S1536x1024) ![0, 768] S1536x256.size inb_S1536x1024_S1536x256_0_768))⟩,
   ⟨Rect.unit (s := S1536x1024) ![0, 512] S1536x256.size inb_S1536x1024_S1536x256_0_512,
      tile2 (View.ld x1 (Rect.unit (s := S2x1024x8) ![0, 512, 0] S1x256x8.size inb_S2x1024x8_S1x256x8_0_512_0))
        (View.ld x1 (Rect.unit (s := S2x1024x8) ![1, 512, 0] S1x256x8.size inb_S2x1024x8_S1x256x8_1_512_0))
        (View.ld x0 (Rect.unit (s := S1536x1024) ![0, 512] S1536x256.size inb_S1536x1024_S1536x256_0_512))⟩,
   ⟨Rect.unit (s := S1536x1024) ![0, 256] S1536x256.size inb_S1536x1024_S1536x256_0_256,
      tile1 (View.ld x1 (Rect.unit (s := S2x1024x8) ![0, 256, 0] S1x256x8.size inb_S2x1024x8_S1x256x8_0_256_0))
        (View.ld x1 (Rect.unit (s := S2x1024x8) ![1, 256, 0] S1x256x8.size inb_S2x1024x8_S1x256x8_1_256_0))
        (View.ld x0 (Rect.unit (s := S1536x1024) ![0, 256] S1536x256.size inb_S1536x1024_S1536x256_0_256))⟩,
   ⟨Rect.unit (s := S1536x1024) ![0, 0] S1536x256.size inb_S1536x1024_S1536x256_0_0,
      tile0 (View.ld x1 (Rect.unit (s := S2x1024x8) ![0, 0, 0] S1x256x8.size inb_S2x1024x8_S1x256x8_0_0_0))
        (View.ld x1 (Rect.unit (s := S2x1024x8) ![1, 0, 0] S1x256x8.size inb_S2x1024x8_S1x256x8_1_0_0))
        (View.ld x0 (Rect.unit (s := S1536x1024) ![0, 0] S1536x256.size inb_S1536x1024_S1536x256_0_0))⟩]

/-- The rotated activations: the four tiles side by side. -/
def rot (x0 : Vec F S1536x1024 .bf16) (x1 : Vec F S2x1024x8 .bf16) : Vec F S1536x1024 .bf16 :=
  View.canon (rotPieces x0 x1)

/-- The four column tiles cover the array. -/
theorem rotPieces_cover (x0 : Vec F S1536x1024 .bf16) (x1 : Vec F S2x1024x8 .bf16) (y : S1536x1024.Idx) :
    ∃ p ∈ rotPieces x0 x1, y ∈ p.1.set := by
  have h1 : (y 1).val < 1024 := (y 1).isLt
  have h0 : (y 0).val < 1536 := (y 0).isLt
  have key : ∀ o : ℕ, o ≤ (y 1).val → (y 1).val < o + 256 → ∀ a : Fin 2,
      (![0, o] : Fin 2 → ℕ) a ≤ (y a).val ∧ (y a).val < (![0, o] : Fin 2 → ℕ) a + S1536x256.size a := fun o ha hb =>
    Fin.forall_fin_two.mpr ⟨⟨Nat.zero_le _, by show (y 0).val < 0 + 1536; omega⟩, ⟨ha, hb⟩⟩
  unfold rotPieces
  simp only [List.mem_cons, List.not_mem_nil, or_false, exists_eq_or_imp, exists_eq_left, Rect.mem_set_unit]
  rcases Nat.lt_or_ge (y 1).val 256 with h | h
  · exact .inr (.inr (.inr (key 0 (Nat.zero_le _) (by omega))))
  rcases Nat.lt_or_ge (y 1).val 512 with h' | h'
  · exact .inr (.inr (.inl (key 256 h (by omega))))
  rcases Nat.lt_or_ge (y 1).val 768 with h'' | h''
  · exact .inr (.inl (key 512 h' (by omega)))
  · exact .inl (key 768 h'' (by omega))

/-- The product block the body stores: `x2` the packed weights' block, `x3` the scales', `x4` the output scales', `X` the
    rotated activations. -/
def prod (x2 : Vec F S512x512 .i8) (x3 : Vec F S8x512 .bf16) (x4 : Vec F S1x512 .f32) (X : Vec F S1536x1024 .bf16) :
    Vec F S1536x512 .bf16 :=
  k0_pay1 (k0_pay91 (k0_pay87 x2))
    (k0_pay92 (k0_pay87 x2) (k0_pay88 x2)
      (k0_pay89 x2 (View.ld x3 (Rect.unit (s := S8x512) ![0, 0] S1x512.size inb_S8x512_S1x512_0_0))
        (View.ld X (Rect.unit (s := S1536x1024) ![0, 0] S1536x128.size inb_S1536x1024_S1536x128_0_0))
        (View.ld x3 (Rect.unit (s := S8x512) ![1, 0] S1x512.size inb_S8x512_S1x512_1_0))
        (View.ld X (Rect.unit (s := S1536x1024) ![0, 128] S1536x128.size inb_S1536x1024_S1536x128_0_128)))
      (k0_pay90 x2 (View.ld x3 (Rect.unit (s := S8x512) ![2, 0] S1x512.size inb_S8x512_S1x512_2_0)))
      (View.ld X (Rect.unit (s := S1536x1024) ![0, 256] S1536x128.size inb_S1536x1024_S1536x128_0_256))
      (View.ld x3 (Rect.unit (s := S8x512) ![3, 0] S1x512.size inb_S8x512_S1x512_3_0))
      (View.ld X (Rect.unit (s := S1536x1024) ![0, 384] S1536x128.size inb_S1536x1024_S1536x128_0_384))
      (View.ld x3 (Rect.unit (s := S8x512) ![4, 0] S1x512.size inb_S8x512_S1x512_4_0))
      (View.ld X (Rect.unit (s := S1536x1024) ![0, 512] S1536x128.size inb_S1536x1024_S1536x128_0_512))
      (View.ld x3 (Rect.unit (s := S8x512) ![5, 0] S1x512.size inb_S8x512_S1x512_5_0))
      (View.ld X (Rect.unit (s := S1536x1024) ![0, 640] S1536x128.size inb_S1536x1024_S1536x128_0_640))
      (View.ld x3 (Rect.unit (s := S8x512) ![6, 0] S1x512.size inb_S8x512_S1x512_6_0))
      (View.ld X (Rect.unit (s := S1536x1024) ![0, 768] S1536x128.size inb_S1536x1024_S1536x128_0_768)))
    (View.ld x3 (Rect.unit (s := S8x512) ![7, 0] S1x512.size inb_S8x512_S1x512_7_0))
    (View.ld X (Rect.unit (s := S1536x1024) ![0, 896] S1536x128.size inb_S1536x1024_S1536x128_0_896)) x4

end Cert.Boft
-- ==== Proof.RunA.lean ====
/- The kernel's body where its conditional is taken. -/
module

public import proofs.«01_k».proof.Proof.Cases
public import proofs.«01_k».proof.Proof.Body

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple where the conditional is taken: the rotated activations are computed, stored and read back, and the
    product block is stored. -/
theorem runA (c : Dev nD) (i : grid0.Coords) (arg1 : Memref sig .tc .vmem S1536x1024 .bf16) (harg1 : arg1.IsWhole) (arg2 : Memref sig .tc .vmem S2x1024x8 .bf16) (harg2 : arg2.IsWhole) (arg3 : Memref sig .tc .vmem S512x512 .i8) (harg3 : arg3.IsWhole) (arg4 : Memref sig .tc .vmem S8x512 .bf16) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x1024 .bf16) (harg7 : arg7.IsWhole) (hc0 : cond0_0 i)
    (x0 : Vec F S1536x1024 .bf16) (x1 : Vec F S2x1024x8 .bf16) (x2 : Vec F S512x512 .i8) (x3 : Vec F S8x512 .bf16) (x4 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (prod x2 x3 x4 (rot x0 x1)) ∗ owns (c : Thread nD τ) arg7 fullShare (rot x0 x1)) -∗ K ⟨⟩))
          ⊢ wp frame (wpE (defs₀ (F := F)) Variants.none c none) E (cc0_boft_int4 i arg1 harg1 arg2 harg2 arg3 harg3 arg4 harg4 arg5 harg5 arg6 harg6 arg7 harg7) K := by
    intro E K
    simp only [cc0_boft_int4_eq_skeleton]; unfold cc0_boft_int4_skel
    simp only [k0_part29_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_eq_canon _ _ _ (fun y => ⟨_, List.mem_singleton.mpr rfl, ?_⟩)).trans ?_
      · show y ∈ (Rect.unit (s := S1536x512) ![0, 0] S1536x512.size inb_S1536x512_S1536x512_0_0).set
        rw [Rect.mem_set_unit]
        exact Fin.forall_fin_two.mpr ⟨⟨Nat.zero_le _, lt_of_lt_of_eq (y 0).isLt (Nat.zero_add _).symm⟩,
          ⟨Nat.zero_le _, lt_of_lt_of_eq (y 1).isLt (Nat.zero_add _).symm⟩⟩
      refine (View.canon_unit_zero (by decide) _ _).trans ?_
      have hL : runA.sl.H6_4 c arg1 harg1 arg2 harg2 x0 x1 = rotPieces x0 x1 := by
        conv_rhs => rw [← hf0, ← hf1]
        rfl
      have hC : ∀ r : Rect S1536x1024, View.readCov arg7.view (runA.sl.H6_4 c arg1 harg1 arg2 harg2 x0 x1) r.toLoadRect
          = View.ld (rot x0 x1) r := fun r => by
        rw [hL]; exact View.readCov_eq_canon_ld _ _ r (rotPieces_cover x0 x1)
      delta runA.sl.r_20 runA.sl.r_21 runA.sl.v78
      delta runA.sl.r_16 runA.sl.r_17 runA.sl.r_18 runA.sl.r_19 runA.sl.v35 runA.sl.v43 runA.sl.v54 runA.sl.v62 runA.sl.v70
      delta runA.sl.v20 runA.sl.v27
      simp only [hC, View.readAt_eq_ld, hf2, hf3, hf4]
      rw [View.ld_unit_zero (by decide), View.ld_unit_zero (by decide)]
      rfl
    iexists _; isplitr; swap; · iexact H6
    ipureintro
    have hL : runA.sl.H6_4 c arg1 harg1 arg2 harg2 x0 x1 = rotPieces x0 x1 := by
      conv_rhs => rw [← hf0, ← hf1]
      rfl
    rw [hL]
    exact View.read_writes_eq_canon _ _ _ (rotPieces_cover x0 x1)

end Cert.Boft
-- ==== Proof.RunB.lean ====
/- The kernel's body where its conditional is not taken. -/
module

public import proofs.«01_k».proof.Proof.Cases
public import proofs.«01_k».proof.Proof.Body

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's triple where the conditional is not taken: the rotated activations `X` are read and kept, and the product
    block is stored. -/
theorem runB (c : Dev nD) (i : grid0.Coords) (arg1 : Memref sig .tc .vmem S1536x1024 .bf16) (harg1 : arg1.IsWhole) (arg2 : Memref sig .tc .vmem S2x1024x8 .bf16) (harg2 : arg2.IsWhole) (arg3 : Memref sig .tc .vmem S512x512 .i8) (harg3 : arg3.IsWhole) (arg4 : Memref sig .tc .vmem S8x512 .bf16) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x1024 .bf16) (harg7 : arg7.IsWhole) (hc0 : ¬cond0_0 i)
    (x0 : Vec F S1536x1024 .bf16) (x1 : Vec F S2x1024x8 .bf16) (x2 : Vec F S512x512 .i8) (x3 : Vec F S8x512 .bf16) (x4 : Vec F S1x512 .f32) (X : Vec F S1536x1024 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare X
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (prod x2 x3 x4 X) ∗ owns (c : Thread nD τ) arg7 fullShare X) -∗ K ⟨⟩))
          ⊢ wp frame (wpE (defs₀ (F := F)) Variants.none c none) E (cc0_boft_int4 i arg1 harg1 arg2 harg2 arg3 harg3 arg4 harg4 arg5 harg5 arg6 harg6 arg7 harg7) K := by
    intro E K
    simp only [cc0_boft_int4_eq_skeleton]; unfold cc0_boft_int4_skel
    simp only [k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (View.read_writes_eq_canon _ _ _ (fun y => ⟨_, List.mem_singleton.mpr rfl, ?_⟩)).trans ?_
      · show y ∈ (Rect.unit (s := S1536x512) ![0, 0] S1536x512.size inb_S1536x512_S1536x512_0_0).set
        rw [Rect.mem_set_unit]
        exact Fin.forall_fin_two.mpr ⟨⟨Nat.zero_le _, lt_of_lt_of_eq (y 0).isLt (Nat.zero_add _).symm⟩,
          ⟨Nat.zero_le _, lt_of_lt_of_eq (y 1).isLt (Nat.zero_add _).symm⟩⟩
      refine (View.canon_unit_zero (by decide) _ _).trans ?_
      sl_unfold_run_names
      simp only [View.readAt_eq_ld, hf2, hf3, hf4, hf6]
      rw [View.ld_unit_zero (by decide), View.ld_unit_zero (by decide)]
      rfl
    iexists _; isplitr; swap; · iexact H6
    ipureintro
    exact hf6

end Cert.Boft
-- ==== Proof.Run.lean ====
/- The run of the kernel's program: what its two results hold at the end, over any arithmetic. -/
module

public import proofs.«01_k».proof.Proof.RunA
public import Idealize.ShloMosaic.Lib.Pipeline.TableIdle
public import proofs.«01_k».proof.Proof.RunB

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the grid. -/
def pt0 : Fin cfg0.N := ⟨0, lt_of_lt_of_eq (by decide) (show 16 = cfg0.N from N_0.symm)⟩

/-- The rotated activations, of the arrays the launch finds. -/
def rotV (c : Dev nD) : Vec F S1536x1024 .bf16 := rot (iblk m c 0 pt0) (iblk m c 1 pt0)

/-- The product block of point `t`. -/
def prodV (c : Dev nD) (t : Fin cfg0.N) : Vec F S1536x512 .bf16 := prod (iblk m c 2 t) (iblk m c 3 t) (iblk m c 4 t) (rotV m c)

/-- The proof data: after the body at point `t` each input's buffer at its block, the product's at the product block, the
    rotated activations' at the rotated activations. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prodV m c t
    | ⟨6, _⟩ => rotV m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = prodV m c t := by dsimp only [dats]
theorem after0_6 (c : Dev nD) (t : Fin cfg0.N) : (dats m 0 c).after 6 t = rotV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem liveAt0_5 : ∀ t : Fin cfg0.N, cfg0.idle 5 (grid0.coords t) = false := fun _ => rfl

/-- The rotated activations' window is stored at the first point only. -/
theorem idle0_6 (t : Fin cfg0.N) : cfg0.idle 6 (grid0.coords t) = !(t.val % 16 == 0) := by
  have h := hcond0_0 t
  show (!(k0_cond1 (grid0.coords t) == 1#1)) = _
  by_cases h0 : t.val % 16 = 0
  · rw [h.mpr h0, h0]; rfl
  · have h1 : ¬ (k0_cond1 (grid0.coords t) = 1#1) := fun e => h0 (h.mp e)
    rw [beq_eq_false_iff_ne.mpr h1, beq_eq_false_iff_ne.mpr h0]

/-- It is written back at the last point only. -/
theorem flush0_6 : ∀ t : Fin cfg0.N, (cfg0.win 6).flush t = (t.val == 15) := by
  decide +kernel

/-- After the first point and up to the last, what the window's buffer holds is what the first point left. -/
theorem fresh0_6 : ∀ n, n ≤ cfg0.N → cfg0.fresh 6 n = (n == 0 || n == 16) :=
  cfg0.fresh_tab 6 (fun n => n == 0 || n == 16) rfl (fun t => by
    have ht : t.val < 16 := lt_of_lt_of_eq t.isLt (show cfg0.N = 16 from N_0)
    rw [flush0_6, idle0_6]
    generalize t.val = n at ht
    revert n
    decide)

theorem before0_6 (c : Dev nD) (t : Fin cfg0.N) (h0 : ¬ t.val % 16 = 0) (d) : (dats m 0 c).before 6 t d = rotV m c := by
  have ht : t.val < 16 := lt_of_lt_of_eq t.isLt (show cfg0.N = 16 from N_0)
  have hf : cfg0.fresh 6 t.val = false := by
    rw [fresh0_6 t.val (Nat.le_of_lt t.isLt)]
    have h1 : t.val ≠ 0 := fun e => h0 (by rw [e])
    rw [beq_eq_false_iff_ne.mpr h1, beq_eq_false_iff_ne.mpr (Nat.ne_of_lt ht)]; rfl
  have hb := (dats m 0 c).before_out_traj 6 rfl (fun _ _ => rfl)
    (fun t' ht' _ _ => (after0_6 m c t').trans (after0_6 m c ⟨t'.val - 1, by omega⟩).symm) t.val t rfl d
  exact hb.trans ((if_neg (by rw [hf]; exact Bool.false_ne_true)).trans (after0_6 m c _))

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the conditional is taken at the first point and at no other; at a later point the rotated
    activations' buffer holds what the first point left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · have ht : t = pt0 := Fin.ext (show t.val = 0 by omega)
    rw [show (dats m 0 c).leavesExact 6 t = owns (c : Thread nD τ) (ms0_6 t) fullShare ((dats m 0 c).after 6 t) from by
      unfold Dat.leavesExact; rw [idle0_6 t, h0]; rfl, after0_6]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((hcond0_0 t).mpr h0) (iblk m c 0 t) (iblk m c 1 t) (iblk m c 2 t) (iblk m c 3 t) (iblk m c 4 t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    subst ht
    isplitl [H5]; · iexact H5
    iexact H6
  · simp only [before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (fun h => h0 ((hcond0_0 t).mp h)) (iblk m c 0 t) (iblk m c 1 t) (iblk m c 2 t) (iblk m c 3 t) (iblk m c 4 t) (rotV m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    by_cases h15 : t.val = 15
    · rw [show (dats m 0 c).leavesExact 6 t = owns (c : Thread nD τ) (ms0_6 t) fullShare ((dats m 0 c).after 6 t) from by
        unfold Dat.leavesExact; rw [idle0_6 t, flush0_6 t, h15]; rfl, after0_6]
      iexact H6
    · rw [(dats m 0 c).leavesExact_idle 6 t (by rw [idle0_6 t, beq_eq_false_iff_ne.mpr h0]; rfl)
        (by rw [flush0_6 t, beq_eq_false_iff_ne.mpr h15])]
      simp only [before0_6 m c t h0]
      iexists d6
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array at what the points wrote back, and every counter at zero. -/
theorem run_main : θ_run defs (onTc (τ := τ) (main (F := F))) (s₀ m ρ) (fun r => (Pipeline.FramePost cfgs (dats m) 0
    (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Boft
-- ==== Proof.Values.lean ====
/- What the kernel's two results hold after the run. -/
module

public import proofs.«01_k».proof.Proof.Run
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The last grid point. -/
def ptLast : Fin cfg0.N := ⟨15, by decide⟩

/-- The region finds the activations, the rotations and the output scales as the host reshaped them. -/
theorem V_v0 (c : Dev nD) : V m c main_v0 = shapeCast S1536x1024 (m ((c : Thread nD τ).loc main_arg0)) shapeCasts_S6x256x1024_S1536x1024 := by
  dsimp only [V, V0]
  simp only [List.flatten_cons, List.flatten_nil, List.append_nil, hostOps0]
  after_reads_simp
  rfl
theorem V_v1 (c : Dev nD) : V m c main_v1 = shapeCast S2x1024x8 (m ((c : Thread nD τ).loc main_arg1)) shapeCasts_S2x128x8x8_S2x1024x8 := by
  dsimp only [V, V0]
  simp only [List.flatten_cons, List.flatten_nil, List.append_nil, hostOps0]
  after_reads_simp
  rfl
theorem V_v2 (c : Dev nD) : V m c main_v2 = shapeCast S1x8192 (m ((c : Thread nD τ).loc main_arg4)) shapeCasts_S8192_S1x8192 := by
  dsimp only [V, V0]
  simp only [List.flatten_cons, List.flatten_nil, List.append_nil, hostOps0]
  after_reads_simp
  rfl

/-- The product array: column `n` is column `n % 512` of point `n / 512`'s block. -/
def prodAll (c : Dev nD) : S1536x8192.Idx → Elt F .bf16 := fun i =>
  prodV m c ⟨(i 1).val / 512, Nat.div_lt_of_lt_mul (show (i 1).val < 512 * 16 from (i 1).isLt)⟩
    (ix2 (i 0) ⟨(i 1).val % 512, Nat.mod_lt _ (by decide)⟩)

theorem index5 : ∀ t : Fin cfg0.N, win0_5.index t = ![0, t.val] := (by decide +kernel : ∀ t : Fin grid0.N, _)

theorem final5 (c : Dev nD) : (dats m 0 c).arrAt 5 cfg0.N = prodAll m c := by
  refine (dats m 0 c).arrAt_eq_of_covers 5 _ (by decide +kernel) fun t hf y => ?_
  blk_simp
  rw [after0_5]
  have e0 : ((win0_5.blk t).view.emb y 0).val = (y 0).val := by blk_simp [index5]
  have e1 : ((win0_5.blk t).view.emb y 1).val = t.val * 512 + (y 1).val := by blk_simp [index5]
  have hy : (y 1).val < 512 := (y 1).isLt
  have ht : ∀ h, (⟨((win0_5.blk t).view.emb y 1).val / 512, h⟩ : Fin cfg0.N) = t := fun h => Fin.ext (by show _ / 512 = _; omega)
  show _ = prodV m c _ _
  rw [ht]
  congr 1
  funext a
  match a with
  | ⟨0, _⟩ => exact Fin.ext e0.symm
  | ⟨1, _⟩ => exact Fin.ext (by show (y 1).val = _ % 512; omega)

theorem final6 (c : Dev nD) : (dats m 0 c).arrAt 6 cfg0.N = rotV m c := by
  refine (dats m 0 c).arrAt_eq_of_after_last 6 ptLast (by decide +kernel) _ fun j => ?_
  blk_simp
  rw [after0_6]

/-- The two results are the two arrays reshaped. -/
theorem tail4 (c : Dev nD) : Pipeline.afterTail₀ cfgs (dats m) 0 (V0 m) [hostOps1] c main_v4
    = shapeCast S6x256x8192 (prodAll m c) shapeCasts_S1536x8192_S6x256x8192 := by
  have h := (Pipeline.withArrays_arr (τ := τ) spec0 (by decide) c (V0 m c) (fun w => (dats m 0 c).arrAt w cfg0.N) 5).trans (final5 m c)
  unfold Pipeline.afterTail₀
  simp only [List.flatten_cons, List.flatten_nil, List.append_nil, hostOps1]
  after_reads_simp
  exact congrArg (fun X : S1536x8192.Idx → Elt F .bf16 => shapeCast S6x256x8192 X shapeCasts_S1536x8192_S6x256x8192) h
theorem tail5 (c : Dev nD) : Pipeline.afterTail₀ cfgs (dats m) 0 (V0 m) [hostOps1] c main_v5
    = shapeCast S6x256x1024 (rotV m c) shapeCasts_S1536x1024_S6x256x1024 := by
  have h := (Pipeline.withArrays_arr (τ := τ) spec0 (by decide) c (V0 m c) (fun w => (dats m 0 c).arrAt w cfg0.N) 6).trans (final6 m c)
  unfold Pipeline.afterTail₀
  simp only [List.flatten_cons, List.flatten_nil, List.append_nil, hostOps1]
  after_reads_simp
  exact congrArg (fun X : S1536x1024.Idx → Elt F .bf16 => shapeCast S6x256x1024 X shapeCasts_S1536x1024_S6x256x1024) h

/-- The frame claim: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_mono (θ_run_and (frame_of m ρ (dats m) (A_eq m) (θ_run_mono (run_main m ρ) fun _ h => h.1)) (run_main m ρ)) fun _ h => ⟨h.1, h.2.2⟩

/-- The run with its two results. -/
theorem run_value : θ_run defs (onTc (τ := τ) (main (F := F))) ⟨m, fun _ => 0, ρ⟩ (fun r => ∀ c : Dev nD,
      r.2.mem ((c.tc : Thread nD τ).loc main_v4) = shapeCast S6x256x8192 (prodAll m c) shapeCasts_S1536x8192_S6x256x8192
      ∧ r.2.mem ((c.tc : Thread nD τ).loc main_v5) = shapeCast S6x256x1024 (rotV m c) shapeCasts_S1536x1024_S6x256x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (frame m ρ) (run_main m ρ)) fun _ h c =>
    ⟨((h.2.1 c).2 main_v4 (Pipeline.mem_restRefs_of main_v4 (by decide) (by decide))).trans (tail4 m c),
     ((h.2.1 c).2 main_v5 (Pipeline.mem_restRefs_of main_v5 (by decide) (by decide))).trans (tail5 m c), h.1.1 c⟩

end Cert.Boft
-- ==== Proof.Tile.lean ====
/- One column tile of the rotated activations, read at an index: two rotations of eight-entry groups, the second of the
   interleaved groups. -/
module

public import proofs.«01_k».proof.Proof.Body
public import Idealize.ShloMosaic.Lib.Pointwise

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The words of the masks -/

/-- The quotient of `x` by `d` rounded down, as the kernel computes it. -/
def flr (d x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt d 0#32)) (Scalar.extui (Scalar.cmpi .slt d 0#32))))
    (IntOp.cmpi .ne (IntOp.remsi .vector x d) 0#32)) (IntOp.subi (IntOp.divsi .vector x d) 1#32) (IntOp.divsi .vector x d)

/-- The divisor the kernel takes remainders by. -/
def dvr (d : BitVec 32) : BitVec 32 := Scalar.select (Scalar.cmpi .eq d 0#32) 1#32 d

/-- The remainder of `x` by `d`, with the divisor's sign, as the kernel computes it. -/
def mdw (d x : BitVec 32) : BitVec 32 :=
  Scalar.select (IntOp.andi (IntOp.xori (IntOp.cmpi .slt (IntOp.remsi .vector x (dvr d)) 0#32) (Scalar.cmpi .slt (dvr d) 0#32))
    (IntOp.cmpi .ne (IntOp.remsi .vector x (dvr d)) 0#32)) (IntOp.addi (IntOp.remsi .vector x (dvr d)) (dvr d)) (IntOp.remsi .vector x (dvr d))

theorem flr8 : ∀ p : Fin 256, flr 8#32 (BitVec.ofNat 32 p.val) = BitVec.ofNat 32 (p.val / 8) := by decide +kernel
theorem flr16 : ∀ p : Fin 256, flr 16#32 (BitVec.ofNat 32 p.val) = BitVec.ofNat 32 (p.val / 16) := by decide +kernel
theorem mdw8 : ∀ p : Fin 256, mdw 8#32 (BitVec.ofNat 32 p.val) = BitVec.ofNat 32 (p.val % 8) := by decide +kernel
theorem mdw2 : ∀ p : Fin 256, mdw 2#32 (BitVec.ofNat 32 p.val) = BitVec.ofNat 32 (p.val % 2) := by decide +kernel
theorem half16 : ∀ p : Fin 256, flr 2#32 (mdw 16#32 (BitVec.ofNat 32 p.val)) = BitVec.ofNat 32 (p.val % 16 / 2) := by decide +kernel
/-- Row `p` of the interleaving takes row `16 (p / 16) + 8 (p % 2) + (p % 16) / 2`. -/
theorem permw : ∀ p : Fin 256,
    IntOp.addi (IntOp.addi (IntOp.muli (flr 16#32 (BitVec.ofNat 32 p.val)) 16#32) (IntOp.muli (mdw 2#32 (BitVec.ofNat 32 p.val)) 8#32))
      (flr 2#32 (mdw 16#32 (BitVec.ofNat 32 p.val))) = BitVec.ofNat 32 (p.val / 16 * 16 + p.val % 2 * 8 + p.val % 16 / 2) := by
  decide +kernel

theorem ofNat_inj (a b : ℕ) (ha : a < 256) (hb : b < 256) : BitVec.ofNat 32 a = BitVec.ofNat 32 b ↔ a = b := by
  constructor
  · intro h
    have := congrArg BitVec.toNat h
    simp only [BitVec.toNat_ofNat] at this
    omega
  · rintro rfl; rfl

theorem cmpi_ofNat (a b : ℕ) (ha : a < 256) (hb : b < 256) :
    IntOp.cmpi .eq (BitVec.ofNat 32 a) (BitVec.ofNat 32 b) = if a = b then 1#1 else 0#1 := by
  by_cases h : a = b
  · subst h; rw [if_pos rfl]; exact IntOp.cmpi_eq_self _
  · rw [if_neg h]
    have hne : ¬ BitVec.ofNat 32 a = BitVec.ofNat 32 b := fun e => h ((ofNat_inj a b ha hb).mp e)
    show BitVec.ofBool (BitVec.ofNat 32 a == BitVec.ofNat 32 b) = 0#1
    rw [beq_eq_false_iff_ne.mpr hne]; rfl

/-- A one-hot word as an extended real. -/
theorem hot_apply (φ : FTy) (a b : ℕ) (ha : a < 256) (hb : b < 256) :
    (FloatOps.sitofp (F := Ideal) φ (BitVec.setWidth 32 (IntOp.cmpi .eq (BitVec.ofNat 32 a) (BitVec.ofNat 32 b))) : EReal) = if a = b then 1 else 0 := by
  rw [cmpi_ofNat a b ha hb]
  by_cases h : a = b
  · rw [if_pos h, if_pos h]
    show (((BitVec.setWidth 32 1#1).toInt : ℝ) : EReal) = 1
    rw [show (BitVec.setWidth 32 1#1).toInt = 1 by decide]; norm_num
  · rw [if_neg h, if_neg h]
    show (((BitVec.setWidth 32 0#1).toInt : ℝ) : EReal) = 0
    rw [show (BitVec.setWidth 32 0#1).toInt = 0 by decide]; norm_num

theorem sum_hot_right {n : ℕ} (f : Fin n → EReal) (a : ℕ) (h : a < n) :
    ∑ x : Fin n, f x * (if a = x.val then (1 : EReal) else 0) = f ⟨a, h⟩ := by
  rw [Finset.sum_eq_single ⟨a, h⟩]
  · rw [if_pos rfl, mul_one]
  · intro b _ hb
    rw [if_neg (fun e => hb (Fin.ext e.symm)), mul_zero]
  · intro h'; exact absurd (Finset.mem_univ _) h'

theorem sum_hot_left {n : ℕ} (f : Fin n → EReal) (a : ℕ) (h : a < n) :
    ∑ x : Fin n, (if x.val = a then (1 : EReal) else 0) * f x = f ⟨a, h⟩ := by
  rw [Finset.sum_eq_single ⟨a, h⟩]
  · rw [if_pos rfl, one_mul]
  · intro b _ hb
    rw [if_neg (fun e => hb (Fin.ext e)), zero_mul]
  · intro h'; exact absurd (Finset.mem_univ _) h'

/-! ## The tiles are one function -/

theorem tile1_eq : tile1 (F := F) = tile0 := rfl
theorem tile2_eq : tile2 (F := F) = tile0 := rfl
theorem tile3_eq : tile3 (F := F) = tile0 := rfl

/-! ## The two block-diagonal matrices -/

abbrev io0 : IVec S256x256 32 := iota .tc S256x256 32 [0] iota_S256x256_d0_w32
abbrev io1 : IVec S256x256 32 := iota .tc S256x256 32 [1] iota_S256x256_d1_w32
abbrev w16 : BitVec 32 := Scalar.select (Scalar.cmpi .eq 16#32 0#32) 1#32 16#32

/-- The first rotation's matrix: the groups' blocks down the diagonal. -/
theorem diag0_apply (u : FVec Ideal S256x8 .bf16) (p q : Fin 256) :
    (k0_pay7 u io1 k0_pay3 k0_pay4 k0_pay5 k0_pay6 (ix2 p q) : EReal)
      = if p.val / 8 = q.val / 8 then u (ix2 p ⟨q.val % 8, Nat.mod_lt _ (by decide)⟩) else 0 := by
  have hp := p.isLt
  have hq := q.isLt
  pointwise [k0_pay7, k0_pay3, k0_pay4, k0_pay5, k0_pay6]
  show Scalar.select (IntOp.cmpi .eq (flr 8#32 (BitVec.ofNat 32 p.val)) (flr 8#32 (BitVec.ofNat 32 q.val)))
    (∑ x : Fin 8, (u (ix2 p x) : EReal) * FloatOps.sitofp (F := Ideal) FTy.f32 (BitVec.setWidth 32 (IntOp.cmpi .eq (mdw 8#32 (BitVec.ofNat 32 q.val)) (BitVec.ofNat 32 x.val)))) (0 : EReal) = _
  rw [flr8, flr8, mdw8, cmpi_ofNat _ _ (by omega) (by omega)]
  have hs : (∑ x : Fin 8, (u (ix2 p x) : EReal) * FloatOps.sitofp (F := Ideal) FTy.f32 (BitVec.setWidth 32 (IntOp.cmpi .eq (BitVec.ofNat 32 (q.val % 8)) (BitVec.ofNat 32 x.val))))
      = u (ix2 p ⟨q.val % 8, Nat.mod_lt _ (by decide)⟩) := by
    rw [← sum_hot_right (fun x => (u (ix2 p x) : EReal)) (q.val % 8) (Nat.mod_lt _ (by decide))]
    refine Finset.sum_congr rfl fun x _ => ?_
    have hx := x.isLt
    rw [hot_apply _ _ _ (by omega) (by omega)]
  rw [hs]
  by_cases h : p.val / 8 = q.val / 8
  · rw [if_pos h, if_pos h]; rfl
  · rw [if_neg h, if_neg h]; rfl

/-- The interleaving of the second rotation's groups. -/
theorem perm_apply (p q : Fin 256) :
    (k0_pay15 (F := Ideal) io1 (k0_pay12 io0 16#32 k0_pay9 k0_pay10 k0_pay11) w16 (k0_pay13 io0) k0_pay14 (ix2 p q) : EReal)
      = if q.val = p.val / 16 * 16 + p.val % 2 * 8 + p.val % 16 / 2 then 1 else 0 := by
  have hp := p.isLt
  have hq := q.isLt
  pointwise [k0_pay15, k0_pay12, k0_pay9, k0_pay10, k0_pay11, k0_pay13, k0_pay14]
  show FloatOps.sitofp (F := Ideal) FTy.f32 (BitVec.setWidth 32 (IntOp.cmpi .eq (BitVec.ofNat 32 q.val)
    (IntOp.addi (IntOp.addi (IntOp.muli (flr 16#32 (BitVec.ofNat 32 p.val)) 16#32) (IntOp.muli (mdw 2#32 (BitVec.ofNat 32 p.val)) 8#32))
      (flr 2#32 (mdw 16#32 (BitVec.ofNat 32 p.val)))))) = _
  rw [permw]
  exact hot_apply _ _ _ (by omega) (by omega)

theorem spread_apply (u : FVec Ideal S256x8 .bf16) (v : FVec Ideal S256x256 .bf16) (p q : Fin 256) :
    (k0_pay18 u v w16 k0_pay16 k0_pay17 (ix2 p q) : EReal)
      = ∑ y : Fin 256, (v (ix2 p y) : EReal) * u (ix2 y ⟨q.val % 16 / 2, by omega⟩) := by
  have hq := q.isLt
  pointwise [k0_pay18, k0_pay16, k0_pay17]
  show (∑ x : Fin 8, (∑ y : Fin 256, (v (ix2 p y) : EReal) * u (ix2 y x)) * FloatOps.sitofp (F := Ideal) FTy.f32 (BitVec.setWidth 32 (IntOp.cmpi .eq (flr 2#32 (mdw 16#32 (BitVec.ofNat 32 q.val))) (BitVec.ofNat 32 x.val)))) = _
  rw [half16, ← sum_hot_right (fun x : Fin 8 => ∑ y : Fin 256, (v (ix2 p y) : EReal) * u (ix2 y x)) (q.val % 16 / 2) (by omega)]
  refine Finset.sum_congr rfl fun x _ => ?_
  have hx := x.isLt
  rw [hot_apply _ _ _ (by omega) (by omega)]

theorem group_apply (p q : Fin 256) :
    k0_pay21 io0 io1 16#32 (k0_pay19 io0) (k0_pay20 io0) (ix2 p q) = if p.val / 16 = q.val / 16 then 1#1 else 0#1 := by
  have hp := p.isLt
  have hq := q.isLt
  pointwise [k0_pay21, k0_pay19, k0_pay20]
  show IntOp.cmpi .eq (flr 16#32 (BitVec.ofNat 32 p.val)) (flr 16#32 (BitVec.ofNat 32 q.val)) = _
  rw [flr16, flr16]
  exact cmpi_ofNat _ _ (by omega) (by omega)

theorem store_apply (D : FVec Ideal S256x256 .bf16) (S : FVec Ideal S256x256 .f32) (M : IVec S256x256 1) (a : FVec Ideal S1536x256 .bf16)
    (r : Fin 1536) (q : Fin 256) :
    (k0_pay22 D io0 io1 S M 2#32 (Scalar.cmpi .eq 2#32 0#32) 1#32 a (ix2 r q) : EReal)
      = ∑ x : Fin 256, if M (ix2 x q) = 1#1 ∧ x.val % 2 = q.val % 2 then
          (∑ y : Fin 256, (a (ix2 r y) : EReal) * D (ix2 y x)) * S (ix2 x q) else 0 := by
  have hq := q.isLt
  pointwise [k0_pay22]
  show (∑ x : Fin 256, Scalar.select (IntOp.andi (M (ix2 x q)) (IntOp.cmpi .eq (mdw 2#32 (BitVec.ofNat 32 x.val)) (mdw 2#32 (BitVec.ofNat 32 q.val))))
    ((∑ y : Fin 256, (a (ix2 r y) : EReal) * D (ix2 y x)) * S (ix2 x q)) (0 : EReal)) = _
  refine Finset.sum_congr rfl fun x _ => ?_
  have hx := x.isLt
  rw [mdw2, mdw2, cmpi_ofNat _ _ (by omega) (by omega)]
  by_cases h : x.val % 2 = q.val % 2
  · rw [if_pos h]
    by_cases hm : M (ix2 x q) = 1#1
    · rw [hm, if_pos ⟨rfl, h⟩]; rfl
    · rw [if_neg (fun e => hm e.1), ValueIdx.eq_zero_of_ne_one hm]; rfl
  · rw [if_neg h, if_neg (fun e => h e.2)]
    have hb : ∀ b : BitVec 1, IntOp.andi b 0#1 = 0#1 := by decide
    rw [hb]; rfl

/-! ## The tile at an index -/

/-- The first rotation of row `r` at column `x`: the sum over the column's group of eight. -/
def rot1 (u : FVec Ideal S1x256x8 .bf16) (a : FVec Ideal S1536x256 .bf16) (r : Fin 1536) (x : Fin 256) : EReal :=
  ∑ j : Fin 8, (a (ix2 r ⟨x.val / 8 * 8 + j.val, by omega⟩) : EReal)
    * u (ix3 0 ⟨x.val / 8 * 8 + j.val, by omega⟩ ⟨x.val % 8, Nat.mod_lt _ (by decide)⟩)

/-- A sum over 256 that vanishes off one group of eight is the sum over the group. -/
theorem sum_group8 (f : Fin 256 → EReal) (b : ℕ) (hb : b < 32) :
    (∑ y : Fin 256, if y.val / 8 = b then f y else 0) = ∑ j : Fin 8, f ⟨b * 8 + j.val, by omega⟩ := by
  rw [← Finset.sum_filter]
  symm
  refine Finset.sum_bij (fun j _ => (⟨b * 8 + j.val, by omega⟩ : Fin 256)) ?_ ?_ ?_ ?_
  · intro j _; rw [Finset.mem_filter]; refine ⟨Finset.mem_univ _, ?_⟩
    show (b * 8 + j.val) / 8 = b
    omega
  · intro j _ j' _ h
    have := congrArg Fin.val h
    exact Fin.ext (by simpa using this)
  · intro y hy
    rw [Finset.mem_filter] at hy
    refine ⟨⟨y.val % 8, Nat.mod_lt _ (by decide)⟩, Finset.mem_univ _, Fin.ext ?_⟩
    have := hy.2
    show b * 8 + y.val % 8 = y.val
    omega
  · intro j _; rfl

/-- A sum over 256 that vanishes off the places of one parity in one group of sixteen is the sum over those eight places. -/
theorem sum_group16 (f : Fin 256 → EReal) (b t : ℕ) (hb : b < 16) (ht : t < 2) :
    (∑ y : Fin 256, if y.val / 16 = b ∧ y.val % 2 = t then f y else 0) = ∑ j : Fin 8, f ⟨b * 16 + j.val * 2 + t, by omega⟩ := by
  rw [← Finset.sum_filter]
  symm
  refine Finset.sum_bij (fun j _ => (⟨b * 16 + j.val * 2 + t, by omega⟩ : Fin 256)) ?_ ?_ ?_ ?_
  · intro j _; rw [Finset.mem_filter]; refine ⟨Finset.mem_univ _, ?_⟩
    show (b * 16 + j.val * 2 + t) / 16 = b ∧ (b * 16 + j.val * 2 + t) % 2 = t
    omega
  · intro j _ j' _ h
    have := congrArg Fin.val h
    exact Fin.ext (by simpa using this)
  · intro y hy
    rw [Finset.mem_filter] at hy
    have hy' := y.isLt
    refine ⟨⟨y.val % 16 / 2, by omega⟩, Finset.mem_univ _, Fin.ext ?_⟩
    have := hy.2
    show b * 16 + y.val % 16 / 2 * 2 + t = y.val
    omega
  · intro j _; rfl

/-- The tile at row `r`, column `q`: the second rotation of the first's, over the eight places of the column's parity in the
    column's group of sixteen. -/
theorem tile0_apply (u0 u1 : FVec Ideal S1x256x8 .bf16) (a : FVec Ideal S1536x256 .bf16) (r : Fin 1536) (q : Fin 256) :
    (tile0 (F := Ideal) u0 u1 a (ix2 r q) : EReal)
      = ∑ j : Fin 8, rot1 u0 a r ⟨q.val / 16 * 16 + j.val * 2 + q.val % 2, by omega⟩
          * u1 (ix3 0 ⟨q.val / 16 * 16 + q.val % 2 * 8 + j.val, by omega⟩ ⟨q.val % 16 / 2, by omega⟩) := by
  unfold tile0
  have hq := q.isLt
  rw [store_apply]
  have hz : ∀ x : Fin 256, (∑ y : Fin 256, (a (ix2 r y) : EReal)
      * k0_pay7 (k0_pay2 u0) io1 k0_pay3 k0_pay4 k0_pay5 k0_pay6 (ix2 y x)) = rot1 u0 a r x := fun x => by
    have hx := x.isLt
    unfold rot1
    rw [← sum_group8 (fun y => (a (ix2 r y) : EReal) * u0 (ix3 0 y ⟨x.val % 8, Nat.mod_lt _ (by decide)⟩)) (x.val / 8) (by omega)]
    refine Finset.sum_congr rfl fun y _ => ?_
    rw [diag0_apply]
    by_cases h : y.val / 8 = x.val / 8
    · rw [if_pos h, if_pos h]
      pointwise [k0_pay2]
    · rw [if_neg h, if_neg h, mul_zero]
  have hs : ∀ x : Fin 256, (k0_pay18 (k0_pay8 u1)
      (k0_pay15 (F := Ideal) io1 (k0_pay12 io0 16#32 k0_pay9 k0_pay10 k0_pay11) w16 (k0_pay13 io0) k0_pay14) w16 k0_pay16 k0_pay17 (ix2 x q) : EReal)
      = u1 (ix3 0 ⟨x.val / 16 * 16 + x.val % 2 * 8 + x.val % 16 / 2, by omega⟩ ⟨q.val % 16 / 2, by omega⟩) := fun x => by
    have hx := x.isLt
    rw [spread_apply]
    rw [← sum_hot_left (fun y : Fin 256 => (u1 (ix3 0 y ⟨q.val % 16 / 2, by omega⟩) : EReal)) (x.val / 16 * 16 + x.val % 2 * 8 + x.val % 16 / 2) (by omega)]
    refine Finset.sum_congr rfl fun y _ => ?_
    rw [perm_apply]
    pointwise [k0_pay8]
  have hsum := sum_group16 (fun x => rot1 u0 a r x
      * u1 (ix3 0 ⟨x.val / 16 * 16 + x.val % 2 * 8 + x.val % 16 / 2, by omega⟩ ⟨q.val % 16 / 2, by omega⟩)) (q.val / 16) (q.val % 2) (by omega) (by omega)
  refine Eq.trans (Finset.sum_congr rfl fun x _ => ?_) (hsum.trans (Finset.sum_congr rfl fun j _ => ?_))
  · rw [hz, hs, group_apply]
    by_cases h : x.val / 16 = q.val / 16
    · rw [if_pos h]
      by_cases h2 : x.val % 2 = q.val % 2
      · rw [if_pos ⟨rfl, h2⟩, if_pos ⟨h, h2⟩]
      · rw [if_neg (fun e => h2 e.2), if_neg (fun e => h2 e.2)]
    · rw [if_neg h, if_neg (fun e => absurd e.1 (by decide)), if_neg (fun e => h e.1)]
  · have hj := j.isLt
    exact congrArg (fun w : Fin 256 => rot1 u0 a r ⟨q.val / 16 * 16 + j.val * 2 + q.val % 2, by omega⟩
      * (u1 (ix3 0 w ⟨q.val % 16 / 2, by omega⟩) : EReal)) (Fin.ext (by
        show (q.val / 16 * 16 + j.val * 2 + q.val % 2) / 16 * 16 + (q.val / 16 * 16 + j.val * 2 + q.val % 2) % 2 * 8
          + (q.val / 16 * 16 + j.val * 2 + q.val % 2) % 16 / 2 = q.val / 16 * 16 + q.val % 2 * 8 + j.val
        omega))

end Cert.Boft
-- ==== Proof.Rotated.lean ====
/- The rotated activations read at an index. -/
module

public import proofs.«01_k».proof.Proof.Tile

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The first rotation of row `r` at column `x`. -/
def R1 (x0 : FVec Ideal S1536x1024 .bf16) (x1 : FVec Ideal S2x1024x8 .bf16) (r : Fin 1536) (x : Fin 1024) : EReal :=
  ∑ j : Fin 8, (x0 (ix2 r ⟨x.val / 8 * 8 + j.val, by omega⟩) : EReal)
    * x1 (ix3 0 ⟨x.val / 8 * 8 + j.val, by omega⟩ ⟨x.val % 8, Nat.mod_lt _ (by decide)⟩)

/-- The two rotations of row `r` at column `c`. -/
def R2 (x0 : FVec Ideal S1536x1024 .bf16) (x1 : FVec Ideal S2x1024x8 .bf16) (r : Fin 1536) (c : Fin 1024) : EReal :=
  ∑ j : Fin 8, R1 x0 x1 r ⟨c.val / 16 * 16 + j.val * 2 + c.val % 2, by omega⟩
    * x1 (ix3 1 ⟨c.val / 16 * 16 + c.val % 2 * 8 + j.val, by omega⟩ ⟨c.val % 16 / 2, by omega⟩)

/-- A tile whose blocks are those of column offset `o` is the rotation at the columns from `o` on. -/
theorem tile_R2 (x0 : FVec Ideal S1536x1024 .bf16) (x1 : FVec Ideal S2x1024x8 .bf16)
    (u0 u1 : FVec Ideal S1x256x8 .bf16) (a : FVec Ideal S1536x256 .bf16) (o : ℕ) (ho : o + 256 ≤ 1024) (h16 : o % 16 = 0)
    (h0 : ∀ (i : Fin 256) (k : Fin 8), u0 (ix3 0 i k) = x1 (ix3 0 ⟨o + i.val, by omega⟩ k))
    (h1 : ∀ (i : Fin 256) (k : Fin 8), u1 (ix3 0 i k) = x1 (ix3 1 ⟨o + i.val, by omega⟩ k))
    (ha : ∀ (r : Fin 1536) (i : Fin 256), a (ix2 r i) = x0 (ix2 r ⟨o + i.val, by omega⟩))
    (r : Fin 1536) (q : Fin 256) :
    (tile0 (F := Ideal) u0 u1 a (ix2 r q) : EReal) = R2 x0 x1 r ⟨o + q.val, by omega⟩ := by
  have hq := q.isLt
  rw [tile0_apply]
  unfold R2
  have hr : ∀ (x : Fin 256) (y : Fin 1024), y.val = o + x.val → rot1 u0 a r x = R1 x0 x1 r y := fun x y hxy => by
    unfold rot1 R1
    refine Finset.sum_congr rfl fun j _ => ?_
    have hj := j.isLt
    have hx := x.isLt
    rw [h0, ha]
    have e : (⟨o + (x.val / 8 * 8 + j.val), by omega⟩ : Fin 1024) = ⟨y.val / 8 * 8 + j.val, by omega⟩ := Fin.ext (by
      show o + (x.val / 8 * 8 + j.val) = y.val / 8 * 8 + j.val
      omega)
    have e2 : (⟨x.val % 8, Nat.mod_lt _ (by decide)⟩ : Fin 8) = ⟨y.val % 8, Nat.mod_lt _ (by decide)⟩ := Fin.ext (by
      show x.val % 8 = y.val % 8
      omega)
    rw [e, e2]
  refine Finset.sum_congr rfl fun j _ => ?_
  have hj := j.isLt
  rw [h1, hr _ ⟨(o + q.val) / 16 * 16 + j.val * 2 + (o + q.val) % 2, by omega⟩ (by
    show (o + q.val) / 16 * 16 + j.val * 2 + (o + q.val) % 2 = o + (q.val / 16 * 16 + j.val * 2 + q.val % 2)
    omega)]
  have e : (⟨o + (q.val / 16 * 16 + q.val % 2 * 8 + j.val), by omega⟩ : Fin 1024)
      = ⟨(o + q.val) / 16 * 16 + (o + q.val) % 2 * 8 + j.val, by omega⟩ := Fin.ext (by
    show o + (q.val / 16 * 16 + q.val % 2 * 8 + j.val) = (o + q.val) / 16 * 16 + (o + q.val) % 2 * 8 + j.val
    omega)
  have e2 : (⟨q.val % 16 / 2, by omega⟩ : Fin 8) = ⟨(o + q.val) % 16 / 2, by omega⟩ := Fin.ext (by
    show q.val % 16 / 2 = (o + q.val) % 16 / 2
    omega)
  rw [e, e2]

theorem rot_tile0 (x0 : FVec Ideal S1536x1024 .bf16) (x1 : FVec Ideal S2x1024x8 .bf16) (r : Fin 1536) (q : Fin 256) :
    (rot (F := Ideal) x0 x1 (ix2 r ⟨0 + q.val, by omega⟩) : EReal) = R2 x0 x1 r ⟨0 + q.val, by omega⟩ := by
  have hq := q.isLt
  have hy : (ix2 r ⟨0 + q.val, by omega⟩ : S1536x1024.Idx)
      = (Rect.unit (s := S1536x1024) ![0, 0] S1536x256.size inb_S1536x1024_S1536x256_0_0).emb (ix2 r q) :=
    funext (Fin.forall_fin_two.mpr ⟨Fin.ext (by show r.val = 0 + 1 * r.val; omega), Fin.ext (by show 0 + q.val = 0 + 1 * q.val; omega)⟩)
  have hm : ∀ (o : ℕ) (inb : ∀ a, (![0, o] : Fin 2 → ℕ) a + S1536x256.size a ≤ S1536x1024.size a), 0 + 256 ≤ o →
      (ix2 r ⟨0 + q.val, by omega⟩ : S1536x1024.Idx) ∉ (Rect.unit (s := S1536x1024) ![0, o] S1536x256.size inb).set := fun o inb ho h => by
    rw [Rect.mem_set_unit] at h
    have h1 : o ≤ 0 + q.val := (h 1).1
    omega
  unfold rot rotPieces
  refine (View.canon_cons_of_not_mem _ _ ?_).trans ?_
  · exact hm 768 inb_S1536x1024_S1536x256_0_768 (by decide)
  refine (View.canon_cons_of_not_mem _ _ ?_).trans ?_
  · exact hm 512 inb_S1536x1024_S1536x256_0_512 (by decide)
  refine (View.canon_cons_of_not_mem _ _ ?_).trans ?_
  · exact hm 256 inb_S1536x1024_S1536x256_0_256 (by decide)
  rw [hy, View.canon_cons_emb]
  refine tile_R2 x0 x1 _ _ _ 0 (by decide) (by decide) (fun i k => ?_) (fun i k => ?_) (fun r i => ?_) r q
  · pointwise []
  · pointwise []
  · pointwise []

theorem rot_tile1 (x0 : FVec Ideal S1536x1024 .bf16) (x1 : FVec Ideal S2x1024x8 .bf16) (r : Fin 1536) (q : Fin 256) :
    (rot (F := Ideal) x0 x1 (ix2 r ⟨256 + q.val, by omega⟩) : EReal) = R2 x0 x1 r ⟨256 + q.val, by omega⟩ := by
  have hq := q.isLt
  have hy : (ix2 r ⟨256 + q.val, by omega⟩ : S1536x1024.Idx)
      = (Rect.unit (s := S1536x1024) ![0, 256] S1536x256.size inb_S1536x1024_S1536x256_0_256).emb (ix2 r q) :=
    funext (Fin.forall_fin_two.mpr ⟨Fin.ext (by show r.val = 0 + 1 * r.val; omega), Fin.ext (by show 256 + q.val = 256 + 1 * q.val; omega)⟩)
  have hm : ∀ (o : ℕ) (inb : ∀ a, (![0, o] : Fin 2 → ℕ) a + S1536x256.size a ≤ S1536x1024.size a), 256 + 256 ≤ o →
      (ix2 r ⟨256 + q.val, by omega⟩ : S1536x1024.Idx) ∉ (Rect.unit (s := S1536x1024) ![0, o] S1536x256.size inb).set := fun o inb ho h => by
    rw [Rect.mem_set_unit] at h
    have h1 : o ≤ 256 + q.val := (h 1).1
    omega
  unfold rot rotPieces
  refine (View.canon_cons_of_not_mem _ _ ?_).trans ?_
  · exact hm 768 inb_S1536x1024_S1536x256_0_768 (by decide)
  refine (View.canon_cons_of_not_mem _ _ ?_).trans ?_
  · exact hm 512 inb_S1536x1024_S1536x256_0_512 (by decide)
  rw [hy, View.canon_cons_emb]
  rw [tile1_eq]
  refine tile_R2 x0 x1 _ _ _ 256 (by decide) (by decide) (fun i k => ?_) (fun i k => ?_) (fun r i => ?_) r q
  · pointwise []
  · pointwise []
  · pointwise []

theorem rot_tile2 (x0 : FVec Ideal S1536x1024 .bf16) (x1 : FVec Ideal S2x1024x8 .bf16) (r : Fin 1536) (q : Fin 256) :
    (rot (F := Ideal) x0 x1 (ix2 r ⟨512 + q.val, by omega⟩) : EReal) = R2 x0 x1 r ⟨512 + q.val, by omega⟩ := by
  have hq := q.isLt
  have hy : (ix2 r ⟨512 + q.val, by omega⟩ : S1536x1024.Idx)
      = (Rect.unit (s := S1536x1024) ![0, 512] S1536x256.size inb_S1536x1024_S1536x256_0_512).emb (ix2 r q) :=
    funext (Fin.forall_fin_two.mpr ⟨Fin.ext (by show r.val = 0 + 1 * r.val; omega), Fin.ext (by show 512 + q.val = 512 + 1 * q.val; omega)⟩)
  have hm : ∀ (o : ℕ) (inb : ∀ a, (![0, o] : Fin 2 → ℕ) a + S1536x256.size a ≤ S1536x1024.size a), 512 + 256 ≤ o →
      (ix2 r ⟨512 + q.val, by omega⟩ : S1536x1024.Idx) ∉ (Rect.unit (s := S1536x1024) ![0, o] S1536x256.size inb).set := fun o inb ho h => by
    rw [Rect.mem_set_unit] at h
    have h1 : o ≤ 512 + q.val := (h 1).1
    omega
  unfold rot rotPieces
  refine (View.canon_cons_of_not_mem _ _ ?_).trans ?_
  · exact hm 768 inb_S1536x1024_S1536x256_0_768 (by decide)
  rw [hy, View.canon_cons_emb]
  rw [tile2_eq]
  refine tile_R2 x0 x1 _ _ _ 512 (by decide) (by decide) (fun i k => ?_) (fun i k => ?_) (fun r i => ?_) r q
  · pointwise []
  · pointwise []
  · pointwise []

theorem rot_tile3 (x0 : FVec Ideal S1536x1024 .bf16) (x1 : FVec Ideal S2x1024x8 .bf16) (r : Fin 1536) (q : Fin 256) :
    (rot (F := Ideal) x0 x1 (ix2 r ⟨768 + q.val, by omega⟩) : EReal) = R2 x0 x1 r ⟨768 + q.val, by omega⟩ := by
  have hq := q.isLt
  have hy : (ix2 r ⟨768 + q.val, by omega⟩ : S1536x1024.Idx)
      = (Rect.unit (s := S1536x1024) ![0, 768] S1536x256.size inb_S1536x1024_S1536x256_0_768).emb (ix2 r q) :=
    funext (Fin.forall_fin_two.mpr ⟨Fin.ext (by show r.val = 0 + 1 * r.val; omega), Fin.ext (by show 768 + q.val = 768 + 1 * q.val; omega)⟩)
  have hm : ∀ (o : ℕ) (inb : ∀ a, (![0, o] : Fin 2 → ℕ) a + S1536x256.size a ≤ S1536x1024.size a), 768 + 256 ≤ o →
      (ix2 r ⟨768 + q.val, by omega⟩ : S1536x1024.Idx) ∉ (Rect.unit (s := S1536x1024) ![0, o] S1536x256.size inb).set := fun o inb ho h => by
    rw [Rect.mem_set_unit] at h
    have h1 : o ≤ 768 + q.val := (h 1).1
    omega
  unfold rot rotPieces
  rw [hy, View.canon_cons_emb]
  rw [tile3_eq]
  refine tile_R2 x0 x1 _ _ _ 768 (by decide) (by decide) (fun i k => ?_) (fun i k => ?_) (fun r i => ?_) r q
  · pointwise []
  · pointwise []
  · pointwise []

/-- The rotated activations at row `r`, column `c`. -/
theorem rot_apply (x0 : FVec Ideal S1536x1024 .bf16) (x1 : FVec Ideal S2x1024x8 .bf16) (r : Fin 1536) (c : Fin 1024) :
    (rot (F := Ideal) x0 x1 (ix2 r c) : EReal) = R2 x0 x1 r c := by
  have hc := c.isLt
  rcases Nat.lt_or_ge c.val 256 with h | h
  · have := rot_tile0 x0 x1 r ⟨c.val, h⟩
    have e : (⟨0 + c.val, by omega⟩ : Fin 1024) = c := Fin.ext (Nat.zero_add _)
    simp only [e] at this
    exact this
  rcases Nat.lt_or_ge c.val 512 with h' | h'
  · have := rot_tile1 x0 x1 r ⟨c.val - 256, by omega⟩
    have e : (⟨256 + (c.val - 256), by omega⟩ : Fin 1024) = c := Fin.ext (by show 256 + (c.val - 256) = c.val; omega)
    simp only [e] at this
    exact this
  rcases Nat.lt_or_ge c.val 768 with h'' | h''
  · have := rot_tile2 x0 x1 r ⟨c.val - 512, by omega⟩
    have e : (⟨512 + (c.val - 512), by omega⟩ : Fin 1024) = c := Fin.ext (by show 512 + (c.val - 512) = c.val; omega)
    simp only [e] at this
    exact this
  · have := rot_tile3 x0 x1 r ⟨c.val - 768, by omega⟩
    have e : (⟨768 + (c.val - 768), by omega⟩ : Fin 1024) = c := Fin.ext (by show 768 + (c.val - 768) = c.val; omega)
    simp only [e] at this
    exact this

end Cert.Boft
-- ==== Proof.Ref.lean ====
/- The reference's two results read at an index. -/
module

public import proofs.«01_k».proof.Proof.Gen.ReferenceIdeal.Run
public import Idealize.ShloMosaic.Lib.Pointwise

@[expose] public section

set_option maxRecDepth 16384

noncomputable section

namespace Cert.BoftRef

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

/-- The reference's first rotation. -/
def fac0 (A0 : FVec F S6x256x1024 .bf16) (A1 : FVec F S2x128x8x8 .bf16) : FVec F S6x256x1024 .bf16 :=
  truncf .bf16 (shapeCast _ (transpose S6x256x128x8x1 [3, 4, 0, 2, 1] (Host.dotGeneral dot_S128x1x8x8_S6x256x128x8x1_S128x1x8x6x256_2_3_3_01_01_24 none (shapeCast _ (shapeCast _ (extractStridedSlice S1x128x8x8 ![0, 0, 0, 0] A1 slices_S2x128x8x8_S1x128x8x8_0_0_0_0) shapeCasts_S1x128x8x8_S128x8x8) shapeCasts_S128x8x8_S128x1x8x8) (shapeCast _ A0 shapeCasts_S6x256x1024_S6x256x128x8x1)) transposes_S128x1x8x6x256_S6x256x128x8x1_3_4_0_2_1) shapeCasts_S6x256x128x8x1_S6x256x1024) bitsLt_bf16_f32

/-- The reference's second rotation, of `Z`. -/
def fac1 (Z : FVec F S6x256x1024 .bf16) (A1 : FVec F S2x128x8x8 .bf16) : FVec F S6x256x1024 .bf16 :=
  truncf .bf16 (shapeCast _ (transpose S6x256x64x8x2 [3, 4, 0, 2, 1] (Host.dotGeneral dot_S64x2x8x8_S6x256x64x8x2_S64x2x8x6x256_2_3_3_01_01_24 none (shapeCast _ (shapeCast _ (extractStridedSlice S1x128x8x8 ![1, 0, 0, 0] A1 slices_S2x128x8x8_S1x128x8x8_1_0_0_0) shapeCasts_S1x128x8x8_S128x8x8) shapeCasts_S128x8x8_S64x2x8x8) (shapeCast _ Z shapeCasts_S6x256x1024_S6x256x64x8x2)) transposes_S64x2x8x6x256_S6x256x64x8x2_3_4_0_2_1) shapeCasts_S6x256x64x8x2_S6x256x1024) bitsLt_bf16_f32

/-- The codes' low four bits, and their high four. -/
def low (A2 : IVec S512x8192 8) : IVec S512x8192 32 :=
  andi (extui 32 A2 natLt_8_32) (broadcastInDim S512x8192 ![] bcast_S_S512x8192 (constantI S_ 32 15#32))
def high (A2 : IVec S512x8192 8) : IVec S512x8192 32 :=
  Host.shrsi (extui 32 A2 natLt_8_32) (broadcastInDim S512x8192 ![] bcast_S_S512x8192 (constantI S_ 32 4#32))

/-- Four bits read as a signed code. -/
def signed (v : IVec S512x8192 32) : IVec S512x8192 32 :=
  select (cmpi .sge v (broadcastInDim S512x8192 ![] bcast_S_S512x8192 (constantI S_ 32 8#32))) (subi v (broadcastInDim S512x8192 ![] bcast_S_S512x8192 (constantI S_ 32 16#32))) v

/-- The scaled codes. -/
def scaled (v : IVec S512x8192 32) (S : FVec F S4x8192 .bf16) : FVec F S512x8192 .bf16 :=
  shapeCast _ (mulf (shapeCast _ (sitofp .bf16 (signed v)) shapeCasts_S512x8192_S4x128x8192) (broadcastInDim S4x128x8192 ![0, 1, 2] bcast_S4x1x8192_S4x128x8192_0_1_2 (broadcastInDim S4x1x8192 ![0, 2] bcast_S4x8192_S4x1x8192_0_2 S))) shapeCasts_S4x128x8192_S512x8192

/-- The reference's product, of the rotated activations `X`. -/
def product (X : FVec F S6x256x1024 .bf16) (A2 : IVec S512x8192 8) (A3 : FVec F S8x8192 .bf16) (A4 : FVec F S8192 .f32) : FVec F S6x256x8192 .bf16 :=
  truncf .bf16 (mulf (addf
      (Host.dotGeneral dot_S6x256x512_S512x8192_S6x256x8192_2_0_01_1_n_n none (extractStridedSlice S6x256x512 ![0, 0, 0] X slices_S6x256x1024_S6x256x512_0_0_0) (scaled (low A2) (extractStridedSlice S4x8192 ![0, 0] A3 slices_S8x8192_S4x8192_0_0)))
      (Host.dotGeneral dot_S6x256x512_S512x8192_S6x256x8192_2_0_01_1_n_n none (extractStridedSlice S6x256x512 ![0, 0, 512] X slices_S6x256x1024_S6x256x512_0_0_512) (scaled (high A2) (extractStridedSlice S4x8192 ![4, 0] A3 slices_S8x8192_S4x8192_4_0))))
    (broadcastInDim S6x256x8192 ![0, 1, 2] bcast_S1x1x8192_S6x256x8192_0_1_2 (broadcastInDim S1x1x8192 ![2] bcast_S8192_S1x1x8192_2 A4))) bitsLt_bf16_f32

theorem res_eq (m : (ℓ : Loc nD τ sig) → Buf (Elt F) ℓ) (c : Dev nD) :
    Cert.ReferenceIdeal.Value.res_main_v53 m c = product (fac1 (fac0 (m ((c.tc : Thread nD τ).loc main_arg0)) (m ((c.tc : Thread nD τ).loc main_arg1))) (m ((c.tc : Thread nD τ).loc main_arg1)))
      (m ((c.tc : Thread nD τ).loc main_arg2)) (m ((c.tc : Thread nD τ).loc main_arg3)) (m ((c.tc : Thread nD τ).loc main_arg4)) := rfl

/-- A code's value from its four bits. -/
def sgn (v : BitVec 32) : BitVec 32 :=
  Scalar.select (IntOp.cmpi CmpIPredicate.sge v 8#32) (IntOp.subi v 16#32) v
def loCode (w : BitVec 8) : BitVec 32 := sgn (IntOp.andi (BitVec.setWidth 32 w) 15#32)
def hiCode (w : BitVec 8) : BitVec 32 := sgn (IntOp.shrsi ArithUnit.host (BitVec.setWidth 32 w) 4#32)

/-- The reference's first rotation at an index. -/
theorem fac0_apply (A0 : FVec Ideal S6x256x1024 .bf16) (A1 : FVec Ideal S2x128x8x8 .bf16) (a : Fin 6) (b : Fin 256) (x : Fin 1024) :
    (fac0 (F := Ideal) A0 A1 (ix3 a b x) : EReal) = ∑ j : Fin 8, (A0 (ix3 a b ⟨x.val / 8 * 8 + j.val, by omega⟩) : EReal)
      * A1 (ix4 0 ⟨x.val / 8, by omega⟩ j ⟨x.val % 8, Nat.mod_lt _ (by decide)⟩) := by
  pointwise [fac0]
  exact Finset.sum_congr rfl fun j _ => mul_comm _ _

/-- The reference's second rotation at an index. -/
theorem fac1_apply (Z : FVec Ideal S6x256x1024 .bf16) (A1 : FVec Ideal S2x128x8x8 .bf16) (a : Fin 6) (b : Fin 256) (x : Fin 1024) :
    (fac1 (F := Ideal) Z A1 (ix3 a b x) : EReal) = ∑ j : Fin 8, (Z (ix3 a b ⟨x.val / 16 * 16 + j.val * 2 + x.val % 2, by omega⟩) : EReal)
      * A1 (ix4 1 ⟨x.val / 16 * 2 + x.val % 2, by omega⟩ j ⟨x.val % 16 / 2, by omega⟩) := by
  have h : x.val / 2 % 8 = x.val % 16 / 2 := by omega
  pointwise [fac1]
  simp only [h]
  exact Finset.sum_congr rfl fun j _ => mul_comm _ _

/-- The reference's product at an index. -/
theorem product_apply (X : FVec Ideal S6x256x1024 .bf16) (A2 : IVec S512x8192 8) (A3 : FVec Ideal S8x8192 .bf16) (A4 : FVec Ideal S8192 .f32) (a : Fin 6) (b : Fin 256) (n : Fin 8192) :
    (product (F := Ideal) X A2 A3 A4 (ix3 a b n) : EReal) =
      (∑ x : Fin 512, (X (ix3 a b ⟨x.val, by omega⟩) : EReal) * ((FloatOps.sitofp (F := Ideal) FTy.bf16 (loCode (A2 (ix2 x n))) : EReal) * A3 (ix2 ⟨x.val / 128, by omega⟩ n))
      + ∑ x : Fin 512, (X (ix3 a b ⟨512 + x.val, by omega⟩) : EReal) * ((FloatOps.sitofp (F := Ideal) FTy.bf16 (hiCode (A2 (ix2 x n))) : EReal) * A3 (ix2 ⟨4 + x.val / 128, by omega⟩ n)))
      * A4 (ix1 n) := by
  pointwise [product, scaled, signed, low, high]
  rfl

end Cert.BoftRef
-- ==== Proof.Product.lean ====
/- The product block the kernel stores, read at an index. -/
module

public import proofs.«01_k».proof.Proof.Body
public import proofs.«01_k».proof.Proof.Ref
public import Idealize.ShloMosaic.Lib.Pointwise
public import Idealize.ShloMosaic.Lib.BitcastFour
public import Idealize.ShloMosaic.Lib.IdealHost

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Cert.BoftRef (loCode hiCode)

/-- A word's byte in row `p` of its column, bit by bit: words read as bytes. -/
theorem unpack_bit (y : S128x512.Idx → BitVec 32) (h : S128x512.Bitcasts 32 S512x512 8) (p n : Fin 512) (q : Nat) (hq : q < 8) :
    (bitcast S512x512 8 y h (ix2 p n)).getLsbD q = (y (ix2 ⟨p.val / 4, by omega⟩ n)).getLsbD (8 * (p.val % 4) + q) := by
  have hrow : S512x512.row (ix2 p n) = p.val := rfl
  rw [bitcast_getLsbD y h (ix2 p n) q hq (by decide)]
  have ep : (S512x512.row (ix2 p n) * 8 + q) / 32 = p.val / 4 := by rw [hrow]; omega
  have eq : (S512x512.row (ix2 p n) * 8 + q) % 32 = 8 * (p.val % 4) + q := by rw [hrow]; omega
  rw [eq]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- Bytes read as words, bit by bit. -/
theorem pack_bit (x : S512x512.Idx → BitVec 8) (h : S512x512.Bitcasts 8 S128x512 32) (p n : Fin 512) (q : Nat) (hq : q < 8) :
    (bitcast S128x512 32 x h (ix2 ⟨p.val / 4, by omega⟩ n)).getLsbD (8 * (p.val % 4) + q) = (x (ix2 p n)).getLsbD q := by
  have e : (8 * (p.val % 4) + q) % 8 = q := by omega
  have := bitcast_8_32_getLsbD_ix2 x h ⟨p.val / 4, by omega⟩ n (8 * (p.val % 4) + q) (by omega) p (by show p.val = 4 * (p.val / 4) + _; omega)
  rw [e] at this
  exact this

/-- The mask keeps the four high bits of every byte. -/
theorem mask_bit : ∀ (a : Fin 4) (q : Fin 8), (4042322160#32).getLsbD (8 * a.val + q.val) = decide (4 ≤ q.val) := by decide

/-- The byte with its high four bits kept. -/
theorem pay87_apply (x : Vec Ideal S512x512 .i8) (p n : Fin 512) :
    k0_pay87 (F := Ideal) x (ix2 p n) = (x (ix2 p n) : BitVec 8) &&& 240#8 := by
  have hm : ∀ q : Fin 8, (240#8).getLsbD q.val = decide (4 ≤ q.val) := by decide
  pointwise [k0_pay87, k0_pay86]
  apply BitVec.eq_of_getLsbD_eq
  intro q hq
  rw [unpack_bit _ _ p n q hq, BitVec.getLsbD_and, hm ⟨q, hq⟩]
  show (bitcast S128x512 32 x _ _ &&& 4042322160#32).getLsbD _ = _
  rw [BitVec.getLsbD_and, pack_bit (x : S512x512.Idx → BitVec 8) _ p n q hq, mask_bit ⟨p.val % 4, by omega⟩ ⟨q, hq⟩]

/-- The byte with its low four bits moved up. -/
theorem low_bits (x : Vec Ideal S512x512 .i8) (p n : Fin 512) :
    bitcast S512x512 8
      (andi (shli (bitcast S128x512 32 x bitcasts_S512x512_w8_S128x512_w32) (broadcast S128x512 4#32)) (broadcast S128x512 4042322160#32))
      bitcasts_S128x512_w32_S512x512_w8 (ix2 p n) = (x (ix2 p n) : BitVec 8) <<< 4 := by
  apply BitVec.eq_of_getLsbD_eq
  intro q hq
  rw [unpack_bit _ _ p n q hq, BitVec.getLsbD_shiftLeft]
  show (bitcast S128x512 32 x _ _ <<< 4 &&& 4042322160#32).getLsbD _ = _
  rw [BitVec.getLsbD_and, mask_bit ⟨p.val % 4, by omega⟩ ⟨q, hq⟩, BitVec.getLsbD_shiftLeft]
  by_cases h4 : 4 ≤ q
  · have e : 8 * (p.val % 4) + q - 4 = 8 * (p.val % 4) + (q - 4) := by omega
    rw [e, pack_bit (x : S512x512.Idx → BitVec 8) _ p n (q - 4) (by omega)]
    simp [h4, hq, show ¬ q < 4 by omega, show ¬ 8 * (p.val % 4) + q < 4 by omega, show 8 * (p.val % 4) + q < 32 by omega]
  · simp [h4, show q < 4 by omega]

/-- Sixteen times a code's value is the byte's value with the code in its high four bits. -/
theorem hi_value : ∀ i : Fin 256, (BitVec.ofFin (w := 8) i &&& 240#8).toInt = 16 * (hiCode (BitVec.ofFin i)).toInt := by decide +kernel
theorem lo_value : ∀ i : Fin 256, (BitVec.ofFin (w := 8) i <<< 4).toInt = 16 * (loCode (BitVec.ofFin i)).toInt := by decide +kernel

/-- One sixteenth of sixteen times a code is the code. -/
theorem sixteenth (a b : ℤ) (h : a = 16 * b) : (((a : ℝ) : EReal)) * Ideal.ofBits FTy.bf16 15744#16 = ((b : ℝ) : EReal) := by
  have : Ideal.ofBits FTy.bf16 15744#16 = (((1 : ℝ) / 16 : ℝ) : EReal) := Ideal.ofBits_sixteenth_bf16
  rw [this, ← EReal.coe_mul, h]
  congr 1
  push_cast
  ring

theorem pay91_apply (x : Vec Ideal S512x512 .i8) (p n : Fin 512) :
    (k0_pay91 (F := Ideal) (k0_pay87 (F := Ideal) x) (ix2 p n) : EReal) = FloatOps.sitofp (F := Ideal) FTy.bf16 (hiCode (x (ix2 p n))) := by
  pointwise [k0_pay91]
  rw [pay87_apply]
  exact sixteenth _ _ (hi_value (x (ix2 p n) : BitVec 8).toFin)

theorem pay88_apply (x : Vec Ideal S512x512 .i8) (p n : Fin 512) :
    (k0_pay88 (F := Ideal) x (ix2 p n) : EReal) = FloatOps.sitofp (F := Ideal) FTy.bf16 (loCode (x (ix2 p n))) := by
  pointwise [k0_pay88, k0_pay86]
  rw [low_bits]
  exact sixteenth _ _ (lo_value (x (ix2 p n) : BitVec 8).toFin)

/-- Four sums of 128 terms are one of 512. -/
theorem sum4 (f : Fin 512 → EReal) :
    ∑ k : Fin 512, f k = ∑ k : Fin 128, f ⟨k.val, by omega⟩ + ∑ k : Fin 128, f ⟨128 + k.val, by omega⟩
      + ∑ k : Fin 128, f ⟨256 + k.val, by omega⟩ + ∑ k : Fin 128, f ⟨384 + k.val, by omega⟩ := by
  have e : ∀ (a b : ℕ) (h : a = b) (ha : a < 512) (hb : b < 512), f ⟨a, ha⟩ = f ⟨b, hb⟩ := by intro a b h _ _; subst h; rfl
  rw [Fin.sum_univ_two_halves 256 256 rfl f,
    Fin.sum_univ_two_halves 128 128 rfl (fun k : Fin 256 => f ⟨k.val, by omega⟩),
    Fin.sum_univ_two_halves 128 128 rfl (fun k : Fin 256 => f ⟨256 + k.val, by omega⟩), add_assoc, add_assoc, add_assoc]
  simp only [add_assoc]
  congr 3

/-- The product block at row `r`, column `n`. -/
theorem prod_apply (x2 : Vec Ideal S512x512 .i8) (x3 : Vec Ideal S8x512 .bf16) (x4 : Vec Ideal S1x512 .f32) (X : Vec Ideal S1536x1024 .bf16)
    (r : Fin 1536) (n : Fin 512) :
    (prod (F := Ideal) x2 x3 x4 X (ix2 r n) : EReal) =
      (∑ k : Fin 512, (X (ix2 r ⟨k.val, by omega⟩) : EReal) * ((FloatOps.sitofp (F := Ideal) FTy.bf16 (loCode (x2 (ix2 k n))) : EReal) * x3 (ix2 ⟨k.val / 128, by omega⟩ n))
      + ∑ k : Fin 512, (X (ix2 r ⟨512 + k.val, by omega⟩) : EReal) * ((FloatOps.sitofp (F := Ideal) FTy.bf16 (hiCode (x2 (ix2 k n))) : EReal) * x3 (ix2 ⟨4 + k.val / 128, by omega⟩ n)))
      * x4 (ix2 0 n) := by
  rw [sum4, sum4]
  pointwise [prod, k0_pay1, k0_pay89, k0_pay90, k0_pay92]
  simp only [pay88_apply, pay91_apply]
  congr 1
  simp only [add_assoc]
  congr 1

end Cert.Boft
-- ==== Proof.Agree.lean ====
/- The two programs' results agree. -/
module

public import proofs.«01_k».proof.Proof.Values
public import proofs.«01_k».proof.Proof.Rotated
public import proofs.«01_k».proof.Proof.Product

@[expose] public section

set_option maxRecDepth 16384

noncomputable section

namespace Cert.Boft

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt Ideal) ℓ) (c : Dev nD)

/-- The arguments, and the reference's rotated activations of them. -/
abbrev A0 : FVec Ideal S6x256x1024 .bf16 := m ((c : Thread nD τ).loc main_arg0)
abbrev A1 : FVec Ideal S2x128x8x8 .bf16 := m ((c : Thread nD τ).loc main_arg1)
abbrev A2 : IVec S512x8192 8 := m ((c : Thread nD τ).loc main_arg2)
abbrev A3 : FVec Ideal S8x8192 .bf16 := m ((c : Thread nD τ).loc main_arg3)
abbrev A4 : FVec Ideal S8192 .f32 := m ((c : Thread nD τ).loc main_arg4)
abbrev refX : FVec Ideal S6x256x1024 .bf16 := Cert.BoftRef.fac1 (F := Ideal) (Cert.BoftRef.fac0 (F := Ideal) (A0 m c) (A1 m c)) (A1 m c)

theorem index0 : ∀ t : Fin cfg0.N, win0_0.index t = ![0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)

/-- The reshapes at an index. -/
theorem cast_x (X : FVec Ideal S6x256x1024 .bf16) (a : Fin 6) (b : Fin 256) (x : Fin 1024) :
    shapeCast S1536x1024 X shapeCasts_S6x256x1024_S1536x1024 (ix2 ⟨a.val * 256 + b.val, by omega⟩ x) = X (ix3 a b x) := by
  have h1 : (a.val * 256 + b.val) / 256 = a.val := by omega
  have h2 : (a.val * 256 + b.val) % 256 = b.val := by omega
  pointwise
  try simp only [h1, h2]
theorem cast_b (X : FVec Ideal S2x128x8x8 .bf16) (s : Fin 2) (p : Fin 1024) (q : Fin 8) :
    shapeCast S2x1024x8 X shapeCasts_S2x128x8x8_S2x1024x8 (ix3 s p q) = X (ix4 s ⟨p.val / 8, by omega⟩ ⟨p.val % 8, Nat.mod_lt _ (by decide)⟩ q) := by
  pointwise
theorem cast_o (X : FVec Ideal S8192 .f32) (n : Fin 8192) :
    shapeCast S1x8192 X shapeCasts_S8192_S1x8192 (ix2 0 n) = X (ix1 n) := by
  pointwise
theorem cast_r (X : FVec Ideal S1536x1024 .bf16) (a : Fin 6) (b : Fin 256) (x : Fin 1024) :
    shapeCast S6x256x1024 X shapeCasts_S1536x1024_S6x256x1024 (ix3 a b x) = X (ix2 ⟨a.val * 256 + b.val, by omega⟩ x) := by
  pointwise
theorem cast_y (X : FVec Ideal S1536x8192 .bf16) (a : Fin 6) (b : Fin 256) (x : Fin 8192) :
    shapeCast S6x256x8192 X shapeCasts_S1536x8192_S6x256x8192 (ix3 a b x) = X (ix2 ⟨a.val * 256 + b.val, by omega⟩ x) := by
  pointwise

/-- The input blocks at an index, as the arguments. -/
theorem iblk0 (a : Fin 6) (b : Fin 256) (x : Fin 1024) :
    iblk m c 0 pt0 (ix2 ⟨a.val * 256 + b.val, by omega⟩ x) = A0 m c (ix3 a b x) := by
  have e : ((win0_0.blk pt0).view.emb (ix2 ⟨a.val * 256 + b.val, by omega⟩ x)) = ix2 ⟨a.val * 256 + b.val, by omega⟩ x := by
    blk_ext [index0]
  show V m c main_v0 _ = _
  rw [V_v0]
  exact (congrArg _ e).trans (cast_x _ a b x)

theorem iblk1 (s : Fin 2) (p : Fin 1024) (q : Fin 8) :
    iblk m c 1 pt0 (ix3 s p q) = A1 m c (ix4 s ⟨p.val / 8, by omega⟩ ⟨p.val % 8, Nat.mod_lt _ (by decide)⟩ q) := by
  have e : ((win0_1.blk pt0).view.emb (ix3 s p q)) = ix3 s p q := by
    blk_ext [index1]
  show V m c main_v1 _ = _
  rw [V_v1]
  exact (congrArg _ e).trans (cast_b _ s p q)

theorem iblk2 (t : Fin cfg0.N) (p n : Fin 512) (h : t.val * 512 + n.val < 8192) :
    iblk m c 2 t (ix2 p n) = A2 m c (ix2 p ⟨t.val * 512 + n.val, h⟩) := by
  have e : ((win0_2.blk t).view.emb (ix2 p n)) = ix2 p ⟨t.val * 512 + n.val, h⟩ := by
    blk_ext [index2]
  show V m c main_arg2 _ = _
  rw [V_main_arg2]
  exact congrArg (A2 m c) e

theorem iblk3 (t : Fin cfg0.N) (p : Fin 8) (n : Fin 512) (h : t.val * 512 + n.val < 8192) :
    iblk m c 3 t (ix2 p n) = A3 m c (ix2 p ⟨t.val * 512 + n.val, h⟩) := by
  have e : ((win0_3.blk t).view.emb (ix2 p n)) = ix2 p ⟨t.val * 512 + n.val, h⟩ := by
    blk_ext [index3]
  show V m c main_arg3 _ = _
  rw [V_main_arg3]
  exact congrArg (A3 m c) e

theorem iblk4 (t : Fin cfg0.N) (n : Fin 512) (h : t.val * 512 + n.val < 8192) :
    iblk m c 4 t (ix2 0 n) = A4 m c (ix1 ⟨t.val * 512 + n.val, h⟩) := by
  have e : ((win0_4.blk t).view.emb (ix2 0 n)) = ix2 0 ⟨t.val * 512 + n.val, h⟩ := by
    blk_ext [index4]
  show V m c main_v2 _ = _
  rw [V_v2]
  exact (congrArg _ e).trans (cast_o _ ⟨t.val * 512 + n.val, h⟩)

/-- The rotated activations are the reference's. -/
theorem rotV_apply (a : Fin 6) (b : Fin 256) (x : Fin 1024) :
    (rotV m c (ix2 ⟨a.val * 256 + b.val, by omega⟩ x) : EReal) = refX m c (ix3 a b x) := by
  refine (rot_apply _ _ _ _).trans (Eq.trans ?_ (Cert.BoftRef.fac1_apply _ _ a b x).symm)
  unfold R2
  refine Finset.sum_congr rfl fun j _ => congrArg₂ (fun u v : EReal => u * v) ?_ ((iblk1 m c _ _ _).trans ?_)
  · refine Eq.trans ?_ (Cert.BoftRef.fac0_apply _ _ a b _).symm
    unfold R1
    refine Finset.sum_congr rfl fun k _ => congrArg₂ (fun u v : EReal => u * v) (iblk0 m c a b _) ((iblk1 m c _ _ _).trans ?_)
    refine congrArg (A1 m c) ?_
    congr 1 <;> exact Fin.ext (by simp only []; omega)
  · refine congrArg (A1 m c) ?_
    congr 1 <;> exact Fin.ext (by simp only []; omega)

theorem rotated_agrees : shapeCast S6x256x1024 (rotV m c) shapeCasts_S1536x1024_S6x256x1024 = refX m c := by
  funext i
  idx_vars i
  exact (cast_r _ _ _ _).trans (rotV_apply m c _ _ _)

theorem product_agrees : shapeCast S6x256x8192 (prodAll m c) shapeCasts_S1536x8192_S6x256x8192
    = Cert.BoftRef.product (F := Ideal) (refX m c) (A2 m c) (A3 m c) (A4 m c) := by
  funext i
  obtain ⟨a, b, n, rfl⟩ : ∃ (a : Fin 6) (b : Fin 256) (n : Fin 8192), i = ix3 a b n := ⟨i 0, i 1, i 2, by funext k; match k with | ⟨0, _⟩ => rfl | ⟨1, _⟩ => rfl | ⟨2, _⟩ => rfl⟩
  refine (cast_y _ a b n).trans ?_
  have ht : n.val / 512 < 16 := by omega
  have hb : n.val / 512 * 512 + n.val % 512 < 8192 := by omega
  have hn : (⟨n.val / 512 * 512 + n.val % 512, hb⟩ : Fin 8192) = n := Fin.ext (by show _ / 512 * 512 + _ % 512 = _; omega)
  show prodV m c (⟨n.val / 512, ht⟩ : Fin cfg0.N) (ix2 ⟨a.val * 256 + b.val, by omega⟩ (⟨n.val % 512, by omega⟩ : Fin 512)) = _
  have w2 : ∀ p : Fin 512, iblk m c 2 (⟨n.val / 512, ht⟩ : Fin cfg0.N) (ix2 p (⟨n.val % 512, by omega⟩ : Fin 512)) = A2 m c (ix2 p n) := fun p =>
    (iblk2 m c ⟨n.val / 512, ht⟩ p ⟨n.val % 512, by omega⟩ hb).trans (by rw [hn])
  have w3 : ∀ p : Fin 8, iblk m c 3 (⟨n.val / 512, ht⟩ : Fin cfg0.N) (ix2 p (⟨n.val % 512, by omega⟩ : Fin 512)) = A3 m c (ix2 p n) := fun p =>
    (iblk3 m c ⟨n.val / 512, ht⟩ p ⟨n.val % 512, by omega⟩ hb).trans (by rw [hn])
  have w4 : iblk m c 4 (⟨n.val / 512, ht⟩ : Fin cfg0.N) (ix2 0 (⟨n.val % 512, by omega⟩ : Fin 512)) = A4 m c (ix1 n) :=
    (iblk4 m c ⟨n.val / 512, ht⟩ ⟨n.val % 512, by omega⟩ hb).trans (by rw [hn])
  refine (prod_apply _ _ _ _ _ _).trans (Eq.trans ?_ (Cert.BoftRef.product_apply _ _ _ _ a b n).symm)
  refine congrArg₂ (fun u v : EReal => u * v) (congrArg₂ (fun u v : EReal => u + v) ?_ ?_) w4
  · refine Finset.sum_congr rfl fun k _ => congrArg₂ (fun u v : EReal => u * v) (rotV_apply m c a b _) (congrArg₂ (fun u v : EReal => u * v) ?_ (w3 _))
    exact congrArg (fun w : BitVec 8 => (FloatOps.sitofp (F := Ideal) FTy.bf16 (Cert.BoftRef.loCode w) : EReal)) (w2 k)
  · refine Finset.sum_congr rfl fun k _ => congrArg₂ (fun u v : EReal => u * v) (rotV_apply m c a b _) (congrArg₂ (fun u v : EReal => u * v) ?_ (w3 _))
    exact congrArg (fun w : BitVec 8 => (FloatOps.sitofp (F := Ideal) FTy.bf16 (Cert.BoftRef.hiCode w) : EReal)) (w2 k)

end Cert.Boft
-- ==== Proof.Printed.lean ====
/- The kernel as printed and the kernel that the ideal claims are about are one program, so the run proved for the second is
   the first's. -/
module

public import proofs.«01_k».proof.Proof.Values
public import proofs.«01_k».proof.Proof.Gen.Kernel.Launch

@[expose] public section

set_option maxRecDepth 16384

noncomputable section

namespace Cert.Boft

open Idealize.ShloMosaic Idealize.SL.Sem

variable {F : FTy → Type} [FloatOps F]

theorem sig_eq : Cert.Kernel.sig = Cert.KernelIdeal.sig := rfl
theorem pcfgs_eq : Cert.Kernel.pcfgs (F := F) = Cert.KernelIdeal.pcfgs (F := F) := rfl
theorem body_eq : Cert.Kernel.cc0_boft_int4 (F := F) = Cert.KernelIdeal.cc0_boft_int4 (F := F) := rfl
theorem main_eq : Cert.Kernel.main (F := F) = Cert.KernelIdeal.main (F := F) := rfl

/-- The two body tables have the one row, the kernel's body. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_eq : Cert.Kernel.defs (F := F) = Cert.KernelIdeal.defs (F := F) :=
  congrArg (Pipeline.defs (Cert.KernelIdeal.pcfgs (F := F))) defs₀_eq

/-- The printed kernel's frame claim. -/
theorem frame_printed (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)) ∧ r.2.sem = fun _ => 0) := by
  rw [defs_eq]
  exact Cert.Boft.frame (F := F) m ρ

end Cert.Boft
-- ==== Proof.lean ====
/- The proof of the certificate's claim: the three programs leave their arguments unchanged and every counter at zero, the
   kernel's program and the one read over the extended reals are the same, and there the kernel's two results are the
   reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import proofs.«01_k».proof.Proof.Printed
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The ideal kernel and the ideal reference end with the same two results. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, Cert.Boft.run_value (F := Ideal) m g, ?_⟩
  refine θ_run_mono (Cert.ReferenceIdeal.Value.run (F := Ideal) m' g') fun r h c => ⟨?_, ?_, (h c).2.2⟩
  · refine (h c).1.trans ((Cert.BoftRef.res_eq m' c).trans ?_)
    rw [(hagree c).1, (hagree c).2.1, (hagree c).2.2.1, (hagree c).2.2.2.1, (hagree c).2.2.2.2]
    exact (Cert.Boft.product_agrees m c).symm
  · refine (h c).2.1.trans (Eq.trans (b := Cert.BoftRef.fac1 (Cert.BoftRef.fac0
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)))
      (m' ((c.tc : Thread Cert.ReferenceIdeal.nD Cert.ReferenceIdeal.τ).loc Cert.ReferenceIdeal.main_arg1))) rfl ?_)
    rw [(hagree c).1, (hagree c).2.1]
    exact (Cert.Boft.rotated_agrees m c).symm

theorem claim : Cert.Claim := ⟨Cert.Kernel.Gen.facts, Cert.KernelIdeal.Gen.facts, Cert.ReferenceIdeal.Gen.facts,
  fun m ρ _ => Cert.Boft.frame_printed m ρ, fun m ρ _ => Cert.Boft.frame m ρ,
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ), trivial, algebraic⟩

end Cert.Proof

end
